-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x64 : Shape := ⟨2, ![4096, 64]⟩
abbrev S2x131072 : Shape := ⟨2, ![2, 131072]⟩
abbrev S64 : Shape := ⟨1, ![64]⟩
abbrev S1x64 : Shape := ⟨2, ![1, 64]⟩
abbrev S64x64 : Shape := ⟨2, ![64, 64]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S512x1 : Shape := ⟨2, ![512, 1]⟩
abbrev S512x4096 : Shape := ⟨2, ![512, 4096]⟩
abbrev S512 : Shape := ⟨1, ![512]⟩
abbrev S2048x64 : Shape := ⟨2, ![2048, 64]⟩
abbrev S2048x1 : Shape := ⟨2, ![2048, 1]⟩
abbrev S512x64 : Shape := ⟨2, ![512, 64]⟩
abbrev S64x4096 : Shape := ⟨2, ![64, 4096]⟩
abbrev S64x2048 : Shape := ⟨2, ![64, 2048]⟩
abbrev S64x1 : Shape := ⟨2, ![64, 1]⟩
abbrev S262144x64 : Shape := ⟨2, ![262144, 64]⟩
abbrev S131072x64 : Shape := ⟨2, ![131072, 64]⟩
abbrev S8x4096 : Shape := ⟨2, ![8, 4096]⟩
abbrev S8x2048 : Shape := ⟨2, ![8, 2048]⟩
abbrev S32768x64 : Shape := ⟨2, ![32768, 64]⟩
abbrev S16384x64 : Shape := ⟨2, ![16384, 64]⟩
abbrev S1x2048 : Shape := ⟨2, ![1, 2048]⟩
abbrev S2048 : Shape := ⟨1, ![2048]⟩
abbrev S4096x4096 : Shape := ⟨2, ![4096, 4096]⟩
abbrev S2048x4096 : Shape := ⟨2, ![2048, 4096]⟩
abbrev S4096x2048 : Shape := ⟨2, ![4096, 2048]⟩
abbrev S512x2048 : Shape := ⟨2, ![512, 2048]⟩

abbrev nBuf : Space → Nat
  | .hbm => 51
  | .vmem => 37
  | .smem => 0
  | _ => 0

abbrev bufTy : (tb : Table) → Fin (tcTables nBuf tb) → BufTy
  | .hbm, ⟨0, _⟩ => ⟨S4096x64, .f32⟩
  | .hbm, ⟨1, _⟩ => ⟨S2x131072, .i32⟩
  | .hbm, ⟨2, _⟩ => ⟨S64, .f32⟩
  | .hbm, ⟨3, _⟩ => ⟨S1x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S4096x64, .bf16⟩
  | .hbm, ⟨16, _⟩ => ⟨S64, .bf16⟩
  | .hbm, ⟨17, _⟩ => ⟨S4096, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1, .f32⟩
  | .hbm, ⟨25, _⟩ => ⟨S1x4096, .f32⟩
  | .hbm, ⟨26, _⟩ => ⟨S4096x1, .f32⟩
  | .hbm, ⟨27, _⟩ => ⟨S1x4096, .f32⟩
  | .hbm, ⟨28, _⟩ => ⟨S2048x64, .f32⟩
  | .hbm, ⟨29, _⟩ => ⟨S2048x1, .f32⟩
  | .hbm, ⟨30, _⟩ => ⟨S64x4096, .f32⟩
  | .hbm, ⟨31, _⟩ => ⟨S64x2048, .f32⟩
  | .hbm, ⟨32, _⟩ => ⟨S64x1, .f32⟩
  | .hbm, ⟨33, _⟩ => ⟨S64x1, .f32⟩
  | .hbm, ⟨34, _⟩ => ⟨S64x64, .bf16⟩
  | .hbm, ⟨35, _⟩ => ⟨S64x64, .bf16⟩
  | .hbm, ⟨36, _⟩ => ⟨S64x1, .f32⟩
  | .hbm, ⟨37, _⟩ => ⟨S64x1, .f32⟩
  | .hbm, ⟨38, _⟩ => ⟨S64x1, .f32⟩
  | .hbm, ⟨39, _⟩ => ⟨S64x1, .f32⟩
  | .hbm, ⟨40, _⟩ => ⟨S64x1, .f32⟩
  | .hbm, ⟨41, _⟩ => ⟨S64x64, .bf16⟩
  | .hbm, ⟨42, _⟩ => ⟨S64x64, .bf16⟩
  | .hbm, ⟨43, _⟩ => ⟨S64x1, .f32⟩
  | .hbm, ⟨44, _⟩ => ⟨S64x1, .f32⟩
  | .hbm, ⟨45, _⟩ => ⟨S64x1, .f32⟩
  | .hbm, ⟨46, _⟩ => ⟨S262144x64, .bf16⟩
  | .hbm, ⟨47, _⟩ => ⟨S131072x64, .bf16⟩
  | .hbm, ⟨48, _⟩ => ⟨S4096x4096, .bf16⟩
  | .hbm, ⟨49, _⟩ => ⟨S2048x4096, .bf16⟩
  | .hbm, ⟨50, _⟩ => ⟨S4096x2048, .f32⟩
  | .local _ .vmem, ⟨0, _⟩ => ⟨S512x1, .f32⟩
  | .local _ .vmem, ⟨1, _⟩ => ⟨S512x1, .f32⟩
  | .local _ .vmem, ⟨2, _⟩ => ⟨S1x4096, .f32⟩
  | .local _ .vmem, ⟨3, _⟩ => ⟨S512x1, .f32⟩
  | .local _ .vmem, ⟨4, _⟩ => ⟨S512x1, .f32⟩
  | .local _ .vmem, ⟨5, _⟩ => ⟨S1x4096, .f32⟩
  | .local _ .vmem, ⟨6, _⟩ => ⟨S4096x64, .f32⟩
  | .local _ .vmem, ⟨7, _⟩ => ⟨S4096x1, .f32⟩
  | .local _ .vmem, ⟨8, _⟩ => ⟨S512x64, .f32⟩
  | .local _ .vmem, ⟨9, _⟩ => ⟨S512x64, .f32⟩
  | .local _ .vmem, ⟨10, _⟩ => ⟨S512x1, .f32⟩
  | .local _ .vmem, ⟨11, _⟩ => ⟨S512x1, .f32⟩
  | .local _ .vmem, ⟨12, _⟩ => ⟨S8x4096, .f32⟩
  | .local _ .vmem, ⟨13, _⟩ => ⟨S8x4096, .f32⟩
  | .local _ .vmem, ⟨14, _⟩ => ⟨S8x2048, .f32⟩
  | .local _ .vmem, ⟨15, _⟩ => ⟨S8x2048, .f32⟩
  | .local _ .vmem, ⟨16, _⟩ => ⟨S64x1, .f32⟩
  | .local _ .vmem, ⟨17, _⟩ => ⟨S64x1, .f32⟩
  | .local _ .vmem, ⟨18, _⟩ => ⟨S64x64, .bf16⟩
  | .local _ .vmem, ⟨19, _⟩ => ⟨S64x1, .f32⟩
  | .local _ .vmem, ⟨20, _⟩ => ⟨S64x1, .f32⟩
  | .local _ .vmem, ⟨21, _⟩ => ⟨S64x1, .f32⟩
  | .local _ .vmem, ⟨22, _⟩ => ⟨S64x1, .f32⟩
  | .local _ .vmem, ⟨23, _⟩ => ⟨S64x1, .f32⟩
  | .local _ .vmem, ⟨24, _⟩ => ⟨S64x64, .bf16⟩
  | .local _ .vmem, ⟨25, _⟩ => ⟨S64x1, .f32⟩
  | .local _ .vmem, ⟨26, _⟩ => ⟨S64x1, .f32⟩
  | .local _ .vmem, ⟨27, _⟩ => ⟨S64x1, .f32⟩
  | .local _ .vmem, ⟨28, _⟩ => ⟨S32768x64, .bf16⟩
  | .local _ .vmem, ⟨29, _⟩ => ⟨S32768x64, .bf16⟩
  | .local _ .vmem, ⟨30, _⟩ => ⟨S16384x64, .bf16⟩
  | .local _ .vmem, ⟨31, _⟩ => ⟨S16384x64, .bf16⟩
  | .local _ .vmem, ⟨32, _⟩ => ⟨S512x4096, .bf16⟩
  | .local _ .vmem, ⟨33, _⟩ => ⟨S512x4096, .bf16⟩
  | .local _ .vmem, ⟨34, _⟩ => ⟨S2048x4096, .bf16⟩
  | .local _ .vmem, ⟨35, _⟩ => ⟨S512x2048, .f32⟩
  | .local _ .vmem, ⟨36, _⟩ => ⟨S512x2048, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg9_0 : Ref sig .tc := ⟨.vmem, 23, rfl⟩
abbrev cc2_stg10_0 : Ref sig .tc := ⟨.vmem, 24, rfl⟩
abbrev cc2_stg11_0 : Ref sig .tc := ⟨.vmem, 25, rfl⟩
abbrev cc2_stg12_0 : Ref sig .tc := ⟨.vmem, 26, rfl⟩
abbrev cc2_stg13_0 : Ref sig .tc := ⟨.vmem, 27, rfl⟩
abbrev cc2_stg14_0 : Ref sig .tc := ⟨.vmem, 28, rfl⟩
abbrev cc2_stg14_1 : Ref sig .tc := ⟨.vmem, 29, rfl⟩
abbrev cc2_stg15_0 : Ref sig .tc := ⟨.vmem, 30, rfl⟩
abbrev cc2_stg15_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg2_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem10_0 : DmaSem sig := 24
abbrev cc2_sem11_0 : DmaSem sig := 25
abbrev cc2_sem12_0 : DmaSem sig := 26
abbrev cc2_sem13_0 : DmaSem sig := 27
abbrev cc2_sem14_0 : DmaSem sig := 28
abbrev cc2_sem14_1 : DmaSem sig := 29
abbrev cc2_sem15_0 : DmaSem sig := 30
abbrev cc2_sem15_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem2_1 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64x64 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64x1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S64x1 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S32768x64 .bf16 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S16384x64 .bf16 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== ReferenceIdeal.lean ====
abbrev S4096x64 : Shape := ⟨2, ![4096, 64]⟩
abbrev S2x131072 : Shape := ⟨2, ![2, 131072]⟩
abbrev S64 : Shape := ⟨1, ![64]⟩
abbrev S1x64 : Shape := ⟨2, ![1, 64]⟩
abbrev S64x64 : Shape := ⟨2, ![64, 64]⟩
abbrev S4096 : Shape := ⟨1, ![4096]⟩
abbrev S_ : Shape := ⟨0, ![]⟩
abbrev S2048 : Shape := ⟨1, ![2048]⟩
abbrev S2048x1 : Shape := ⟨2, ![2048, 1]⟩
abbrev S2048x64 : Shape := ⟨2, ![2048, 64]⟩
abbrev S64x4096 : Shape := ⟨2, ![64, 4096]⟩
abbrev S64x4096x1 : Shape := ⟨3, ![64, 4096, 1]⟩
abbrev S64x2048 : Shape := ⟨2, ![64, 2048]⟩
abbrev S64x2048x1 : Shape := ⟨3, ![64, 2048, 1]⟩
abbrev S64x4096x64 : Shape := ⟨3, ![64, 4096, 64]⟩
abbrev S1x1x64 : Shape := ⟨3, ![1, 1, 64]⟩
abbrev S64x2048x64 : Shape := ⟨3, ![64, 2048, 64]⟩
abbrev S4096x4096 : Shape := ⟨2, ![4096, 4096]⟩
abbrev S2048x4096 : Shape := ⟨2, ![2048, 4096]⟩
abbrev S4096x2048 : Shape := ⟨2, ![4096, 2048]⟩
abbrev S4096x1 : Shape := ⟨2, ![4096, 1]⟩

abbrev nBuf : Space → Nat
  | .hbm => 141
  | .vmem => 0
  | .smem => 0
  | _ => 0

abbrev hbmTy0_0 (i : Nat) : BufTy := match i % 128 with
  | 0 => ⟨S4096x64, .f32⟩
  | 1 => ⟨S2x131072, .i32⟩
  | 2 => ⟨S64, .f32⟩
  | 3 => ⟨S1x64, .f32⟩
  | 4 => ⟨S64, .f32⟩
  | 5 => ⟨S64x64, .f32⟩
  | 6 => ⟨S64, .f32⟩
  | 7 => ⟨S64, .f32⟩
  | 8 => ⟨S64, .f32⟩
  | 9 => ⟨S1x64, .f32⟩
  | 10 => ⟨S64, .f32⟩
  | 11 => ⟨S64x64, .f32⟩
  | 12 => ⟨S64, .f32⟩
  | 13 => ⟨S64, .f32⟩
  | 14 => ⟨S64, .f32⟩
  | 15 => ⟨S4096, .f32⟩
  | 16 => ⟨S64, .f32⟩
  | 17 => ⟨S_, .f32⟩
  | 18 => ⟨S_, .f32⟩
  | 19 => ⟨S_, .f32⟩
  | 20 => ⟨S4096, .f32⟩
  | 21 => ⟨S4096, .f32⟩
  | 22 => ⟨S2048, .f32⟩
  | 23 => ⟨S2048, .i32⟩
  | 24 => ⟨S_, .i32⟩
  | 25 => ⟨S2048, .i32⟩
  | 26 => ⟨S2048, .i1⟩
  | 27 => ⟨S_, .i32⟩
  | 28 => ⟨S2048, .i32⟩
  | 29 => ⟨S2048, .i32⟩
  | 30 => ⟨S2048, .i32⟩
  | 31 => ⟨S2048x1, .i32⟩
  | 32 => ⟨S2048x64, .f32⟩
  | 33 => ⟨S2048, .f32⟩
  | 34 => ⟨S2048x1, .f32⟩
  | 35 => ⟨S2048x64, .f32⟩
  | 36 => ⟨S2048x64, .f32⟩
  | 37 => ⟨S64x4096, .f32⟩
  | 38 => ⟨S64x4096x1, .f32⟩
  | 39 => ⟨S64x2048, .f32⟩
  | 40 => ⟨S64x2048x1, .f32⟩
  | 41 => ⟨S64x4096x64, .f32⟩
  | 42 => ⟨S1x1x64, .f32⟩
  | 43 => ⟨S64x4096x64, .f32⟩
  | 44 => ⟨S64x4096x64, .f32⟩
  | 45 => ⟨S64x4096x64, .f32⟩
  | 46 => ⟨S64x4096x64, .f32⟩
  | 47 => ⟨S1x1x64, .f32⟩
  | 48 => ⟨S64x4096x64, .f32⟩
  | 49 => ⟨S64x4096x64, .f32⟩
  | 50 => ⟨S_, .f32⟩
  | 51 => ⟨S64x4096x64, .f32⟩
  | 52 => ⟨S64x4096x64, .f32⟩
  | 53 => ⟨S_, .f32⟩
  | 54 => ⟨S64x4096, .f32⟩
  | 55 => ⟨S64x4096x1, .f32⟩
  | 56 => ⟨S_, .f32⟩
  | 57 => ⟨S64x4096x1, .f32⟩
  | 58 => ⟨S64x4096x1, .f32⟩
  | 59 => ⟨S64x4096x64, .f32⟩
  | 60 => ⟨S64x4096x64, .f32⟩
  | 61 => ⟨S64x4096x64, .f32⟩
  | 62 => ⟨S_, .f32⟩
  | 63 => ⟨S64x4096, .f32⟩
  | 64 => ⟨S64x4096x1, .f32⟩
  | 65 => ⟨S_, .f32⟩
  | 66 => ⟨S64x4096x1, .f32⟩
  | 67 => ⟨S64x4096x1, .f32⟩
  | 68 => ⟨S64x4096x64, .f32⟩
  | 69 => ⟨S64x4096x64, .f32⟩
  | 70 => ⟨S_, .f32⟩
  | 71 => ⟨S64x4096x1, .f32⟩
  | 72 => ⟨S64x4096x1, .f32⟩
  | 73 => ⟨S64x4096x1, .f32⟩
  | 74 => ⟨S64x4096x64, .f32⟩
  | 75 => ⟨S64x4096x64, .f32⟩
  | 76 => ⟨S1x1x64, .f32⟩
  | 77 => ⟨S64x4096x64, .f32⟩
  | 78 => ⟨S64x4096x64, .f32⟩
  | 79 => ⟨S1x1x64, .f32⟩
  | 80 => ⟨S64x4096x64, .f32⟩
  | 81 => ⟨S64x4096x64, .f32⟩
  | 82 => ⟨S64x2048x64, .f32⟩
  | 83 => ⟨S1x1x64, .f32⟩
  | 84 => ⟨S64x2048x64, .f32⟩
  | 85 => ⟨S64x2048x64, .f32⟩
  | 86 => ⟨S64x2048x64, .f32⟩
  | 87 => ⟨S64x2048x64, .f32⟩
  | 88 => ⟨S1x1x64, .f32⟩
  | 89 => ⟨S64x2048x64, .f32⟩
  | 90 => ⟨S64x2048x64, .f32⟩
  | 91 => ⟨S_, .f32⟩
  | 92 => ⟨S64x2048x64, .f32⟩
  | 93 => ⟨S64x2048x64, .f32⟩
  | 94 => ⟨S_, .f32⟩
  | 95 => ⟨S64x2048, .f32⟩
  | 96 => ⟨S64x2048x1, .f32⟩
  | 97 => ⟨S_, .f32⟩
  | 98 => ⟨S64x2048x1, .f32⟩
  | 99 => ⟨S64x2048x1, .f32⟩
  | 100 => ⟨S64x2048x64, .f32⟩
  | 101 => ⟨S64x2048x64, .f32⟩
  | 102 => ⟨S64x2048x64, .f32⟩
  | 103 => ⟨S_, .f32⟩
  | 104 => ⟨S64x2048, .f32⟩
  | 105 => ⟨S64x2048x1, .f32⟩
  | 106 => ⟨S_, .f32⟩
  | 107 => ⟨S64x2048x1, .f32⟩
  | 108 => ⟨S64x2048x1, .f32⟩
  | 109 => ⟨S64x2048x64, .f32⟩
  | 110 => ⟨S64x2048x64, .f32⟩
  | 111 => ⟨S_, .f32⟩
  | 112 => ⟨S64x2048x1, .f32⟩
  | 113 => ⟨S64x2048x1, .f32⟩
  | 114 => ⟨S64x2048x1, .f32⟩
  | 115 => ⟨S64x2048x64, .f32⟩
  | 116 => ⟨S64x2048x64, .f32⟩
  | 117 => ⟨S1x1x64, .f32⟩
  | 118 => ⟨S64x2048x64, .f32⟩
  | 119 => ⟨S64x2048x64, .f32⟩
  | 120 => ⟨S1x1x64, .f32⟩
  | 121 => ⟨S64x2048x64, .f32⟩
  | 122 => ⟨S64x2048x64, .f32⟩
  | 123 => ⟨S4096x4096, .f32⟩
  | 124 => ⟨S2048x4096, .f32⟩
  | 125 => ⟨S4096x2048, .f32⟩
  | 126 => ⟨S4096x2048, .f32⟩
  | 127 => ⟨S_, .f32⟩
  | _ => ⟨S4096x64, .f32⟩

abbrev hbmTy0_1 (i : Nat) : BufTy := match i % 128 with
  | 0 => ⟨S4096, .f32⟩
  | 1 => ⟨S_, .f32⟩
  | 2 => ⟨S4096, .f32⟩
  | 3 => ⟨S4096, .f32⟩
  | 4 => ⟨S4096x1, .f32⟩
  | 5 => ⟨S4096x2048, .f32⟩
  | 6 => ⟨S4096x2048, .f32⟩
  | 7 => ⟨S4096x2048, .f32⟩
  | 8 => ⟨S_, .f32⟩
  | 9 => ⟨S4096, .f32⟩
  | 10 => ⟨S4096x1, .f32⟩
  | 11 => ⟨S4096x2048, .f32⟩
  | 12 => ⟨S4096x2048, .f32⟩
  | _ => ⟨S4096x64, .f32⟩

abbrev hbmTy (i : Nat) : BufTy := match i / 128 with
  | 0 => hbmTy0_0 i
  | 1 => hbmTy0_1 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_values : Ref sig .tc := ⟨.hbm, 22, rfl⟩
abbrev main_indices : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call1_cst : Ref sig .tc := ⟨.hbm, 50, rfl⟩
abbrev main_call1_v0 : Ref sig .tc := ⟨.hbm, 51, rfl⟩
abbrev main_v28 : Ref sig .tc := ⟨.hbm, 52, rfl⟩
abbrev main_cst : Ref sig .tc := ⟨.hbm, 53, rfl⟩
abbrev main_v29 : Ref sig .tc := ⟨.hbm, 54, rfl⟩
abbrev main_v30 : Ref sig .tc := ⟨.hbm, 55, rfl⟩
abbrev main_cst_1 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_2 : Ref sig .tc := ⟨.hbm, 62, rfl⟩
abbrev main_v36 : Ref sig .tc := ⟨.hbm, 63, rfl⟩
abbrev main_v37 : Ref sig .tc := ⟨.hbm, 64, rfl⟩
abbrev main_cst_3 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_4 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_call2_cst : Ref sig .tc := ⟨.hbm, 91, rfl⟩
abbrev main_call2_v0 : Ref sig .tc := ⟨.hbm, 92, rfl⟩
abbrev main_v62 : Ref sig .tc := ⟨.hbm, 93, rfl⟩
abbrev main_cst_5 : Ref sig .tc := ⟨.hbm, 94, rfl⟩
abbrev main_v63 : Ref sig .tc := ⟨.hbm, 95, rfl⟩
abbrev main_v64 : Ref sig .tc := ⟨.hbm, 96, rfl⟩
abbrev main_cst_6 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_7 : Ref sig .tc := ⟨.hbm, 103, rfl⟩
abbrev main_v70 : Ref sig .tc := ⟨.hbm, 104, rfl⟩
abbrev main_v71 : Ref sig .tc := ⟨.hbm, 105, rfl⟩
abbrev main_cst_8 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_9 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_10 : Ref sig .tc := ⟨.hbm, 127, rfl⟩
abbrev main_v91 : Ref sig .tc := ⟨.hbm, 128, rfl⟩
abbrev main_cst_11 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_12 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩

abbrev nD : Nat := 1
abbrev τ : Topo := Topo.v7x

variable {F : FTy → Type} [FloatOps F]
-- ==== Proof.KernelRun.lean ====
module

public import proofs.«01_k».proof.Proof.Gen.KernelIdeal.Frame

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel's whole program ends with every array of main memory at the contents the last segment leaves:
    the launch of its ten segments (three host stretches, then the four kernels with the stretches between). -/
theorem ends : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun _ h _ => h)

end Cert.KernelIdeal.Run

end
-- ==== Proof.Order.lean ====
module

public import Idealize.ShloMosaic.Lib.SortPrefix
public import Idealize.ShloMosaic.PureOps
public import Mathlib.Data.EReal.Operations

@[expose] public section

/-! # The rank of a score and the stable descending sort

Position `p` of the stable descending sort of `n` scores holds the one element that exactly `p` others precede: those with a
greater score, or with an equal score and a smaller index. -/

noncomputable section

namespace Cert.Pool

open Idealize.ShloMosaic

/-- `i` comes before `j` in the descending order of the scores `s`, ties by index. -/
def Before {n : Nat} (s : Fin n → EReal) (i j : Fin n) : Prop := s j < s i ∨ (s i = s j ∧ i < j)

instance {n : Nat} (s : Fin n → EReal) (i j : Fin n) : Decidable (Before s i j) := by unfold Before; infer_instance

/-- The number of elements that come before `j`. -/
def rankOf {n : Nat} (s : Fin n → EReal) (j : Fin n) : Nat := (Finset.univ.filter fun i => Before s i j).card

/-- The element the stable descending sort puts at position `p`. -/
def pick {n : Nat} (s : Fin n → EReal) (p : Fin n) : Fin n := sortedFrom (fun k k' => decide (s k' < s k)) p

variable {n : Nat} (s : Fin n → EReal)

theorem before_trans {a b c : Fin n} (h : Before s a b) (h' : Before s b c) : Before s a c := by
  rcases h with h | ⟨h, l⟩ <;> rcases h' with h' | ⟨h', l'⟩
  · exact .inl (h'.trans h)
  · exact .inl (h' ▸ h)
  · exact .inl (h ▸ h')
  · exact .inr ⟨h.trans h', l.trans l'⟩

theorem before_irrefl (a : Fin n) : ¬ Before s a a := by simp [Before]

/-- Inserting an element of smaller index into a list in order keeps it in order. -/
theorem pairwise_insert (a : Fin n) (l : List (Fin n)) (hl : l.Pairwise (Before s)) (ha : ∀ b ∈ l, a < b) :
    (insertBefore (fun k k' => decide (s k' < s k)) a l).Pairwise (Before s) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore _ a l).mem_iff.mp hc) with rfl | hc'
      · exact .inl (of_decide_eq_true h)
      · exact hl.1 c hc'
    · rename_i h
      have hab : Before s a b := by
        rcases lt_trichotomy (s a) (s b) with h1 | h1 | h1
        · exact absurd (decide_eq_true h1) h
        · exact .inr ⟨h1, ha b List.mem_cons_self⟩
        · exact .inl h1
      refine List.pairwise_cons.mpr ⟨fun c hc => ?_, List.pairwise_cons.mpr hl⟩
      rcases List.mem_cons.mp hc with rfl | hc'
      · exact hab
      · exact before_trans s hab (hl.1 c hc')

/-- The stable sort of a list of increasing indices is in order. -/
theorem pairwise_sort (l : List (Fin n)) (hl : l.Pairwise (· < ·)) :
    (stableSort (fun k k' => decide (s k' < s k)) l).Pairwise (Before s) := by
  induction l with
  | nil => exact List.Pairwise.nil
  | cons a l ih =>
    rw [List.pairwise_cons] at hl
    unfold stableSort
    exact pairwise_insert s a _ (ih hl.2) fun b hb => hl.1 b ((perm_stableSort _ l).mem_iff.mp hb)

/-- An earlier position holds an element that comes before. -/
theorem before_pick {p q : Fin n} (h : p < q) : Before s (pick s p) (pick s q) :=
  List.pairwise_iff_get.mp (pairwise_sort s (List.finRange n) (List.pairwise_lt_finRange n))
    (p.cast (length_sortPositions n _).symm) (q.cast (length_sortPositions n _).symm) h

/-- The element at position `p` has rank `p`. -/
theorem rankOf_pick (p : Fin n) : rankOf s (pick s p) = p.val := by
  have hinj : Function.Injective (pick s) := sortedFrom_injective _
  have : (Finset.univ.filter fun i => Before s i (pick s p)) = (Finset.univ.filter fun q => q < p).image (pick s) := by
    ext i
    simp only [Finset.mem_filter, Finset.mem_univ, true_and, Finset.mem_image]
    constructor
    · intro h
      obtain ⟨q, rfl⟩ : ∃ q, pick s q = i := sortedFrom_surjective _ i
      refine ⟨q, ?_, rfl⟩
      rcases lt_trichotomy q p with hq | hq | hq
      · exact hq
      · subst hq; exact absurd h (before_irrefl s _)
      · exact absurd (before_trans s h (before_pick s hq)) (before_irrefl s _)
    · rintro ⟨q, hq, rfl⟩
      exact before_pick s hq
  rw [rankOf, this, Finset.card_image_of_injective _ hinj]
  rw [show (Finset.univ.filter fun q : Fin n => q < p) = Finset.Iio p from by ext; simp]
  simp

/-- The element of rank `p` is the one the sort puts at position `p`. -/
theorem rankOf_eq_iff (p j : Fin n) : rankOf s j = p.val ↔ j = pick s p := by
  constructor
  · intro h
    obtain ⟨q, rfl⟩ : ∃ q, pick s q = j := sortedFrom_surjective _ j
    rw [rankOf_pick] at h
    rw [Fin.ext h]
  · rintro rfl; exact rankOf_pick s p

/-- A sum of extended reals over the one-hot row at `j` is the summand at `j`. -/
theorem sum_oneHot {ι : Type} [Fintype ι] [DecidableEq ι] (j : ι) (x : ι → EReal) :
    ∑ i, (if i = j then (1 : EReal) else 0) * x i = x j := by
  rw [Finset.sum_eq_single j]
  · simp
  · intro i _ hi; simp [hi]
  · simp

/-- Counting by ones and zeros: the two ways of coming before, added as numbers, give the rank. -/
theorem sum_rank (j : Fin n) :
    ∑ i, ((if s j < s i then (1 : EReal) else 0) + (if s i = s j ∧ i < j then (1 : EReal) else 0)) = ((rankOf s j : ℕ) : EReal) := by
  have : ∀ i, ((if s j < s i then (1 : EReal) else 0) + (if s i = s j ∧ i < j then (1 : EReal) else 0))
      = if Before s i j then 1 else 0 := by
    intro i
    unfold Before
    by_cases h : s j < s i
    · have h' : s i ≠ s j := ne_of_gt h
      simp [h, h']
    · simp [h]
  simp only [this, rankOf]
  rw [Finset.card_filter, Nat.cast_sum]
  exact Finset.sum_congr rfl fun i _ => by split <;> simp

end Cert.Pool

end
-- ==== Proof.RankValue.lean ====
module

public import proofs.«01_k».proof.Proof.Gen.KernelIdeal.Frame
public import proofs.«01_k».proof.Proof.Order
public import Idealize.ShloMosaic.Lib.Pipeline.ValueKit
public import Idealize.ShloMosaic.Lib.Pointwise

@[expose] public section

set_option maxRecDepth 16384

/-! # The rank kernel: the rank of every score -/

noncomputable section

namespace Cert.KernelIdeal.RankValue

open Idealize.ShloMosaic Idealize.ShloMosaic.TcCoe Idealize.SL.Sem
open Idealize.ShloMosaic.Pipeline (Dat)
open Cert.KernelIdeal Cert.KernelIdeal.Gen Cert.Pool

/-- A truth value widened to a word and read as a number is one or zero. -/
theorem sitofp_bit (p : Prop) [Decidable p] :
    (FloatOps.sitofp (F := Ideal) FTy.f32 (BitVec.setWidth 32 (BitVec.ofBool (decide p))) : EReal) = if p then 1 else 0 := by
  show (((BitVec.setWidth 32 (BitVec.ofBool (decide p))).toInt : ℝ) : EReal) = _
  by_cases h : p
  · simp [h]
  · simp [h]

/-- Row `b` of block `a` of 512 rows, as a word, is compared as a number. -/
theorem row_word (a b : Nat) (ha : a < 8) (hb : b < 512) :
    IntOp.addi (Scalar.muli (BitVec.ofNat 32 a) 512#32) (BitVec.ofNat 32 b) = BitVec.ofNat 32 (a * 512 + b) := by
  simp only [IntOp.addi, Scalar.muli, IntOp.muli]
  apply BitVec.eq_of_toNat_eq
  simp

theorem slt_word (a b : Nat) (ha : a < 4096) (hb : b < 4096) :
    IntOp.cmpi .slt (BitVec.ofNat 32 a) (BitVec.ofNat 32 b) = BitVec.ofBool (decide (a < b)) := by
  simp only [IntOp.cmpi]
  congr 1
  have h : ∀ n : Nat, n < 4096 → (BitVec.ofNat 32 n).toInt = (n : Int) := fun n hn => by
    rw [BitVec.toInt_eq_toNat_of_lt] <;> rw [BitVec.toNat_ofNat] <;> omega
  rw [BitVec.slt_eq_decide, h a ha, h b hb]
  simp

theorem andi_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- What the rank kernel stores for row `r` of block `i`: the sum over the elements of the two ways of coming before. -/
theorem pay_apply (i : grid0.Coords) (x0 : Vec Ideal S512x1 .f32) (x1 : Vec Ideal S1x4096 .f32) (r : Fin 512) :
    k0_pay1 i x0 x1 (ix2 r (0 : Fin 1)) = ∑ j : Fin 4096,
      ((if x0 (ix2 r 0) < x1 (ix2 0 j) then (1 : EReal) else 0)
        + (if x1 (ix2 0 j) = x0 (ix2 r 0) ∧ (j : Nat) < (i 0 : Nat) * 512 + r then (1 : EReal) else 0)) := by
  have hi : (i 0 : Nat) < 8 := (i 0).isLt
  pointwise [k0_pay1]
  refine Finset.sum_congr rfl fun j _ => ?_
  rw [row_word _ _ hi r.isLt, slt_word _ _ j.isLt (by omega), andi_bits, sitofp_bit, sitofp_bit]

variable (V : (c : Dev nD) → (b : Ref sig .tc) → Buf (Elt Ideal) ((c : Thread nD τ).loc b))

theorem idx : ∀ t : Fin cfg0.N, win0_0.index t = ![t.val, 0] ∧ win0_1.index t = ![0, 0] ∧ win0_2.index t = ![t.val, 0]
    ∧ (grid0.coords t 0).val = t.val :=
  (by decide +kernel : ∀ t : Fin grid0.N, _)

theorem row_lt (t : Fin cfg0.N) (r : Fin 512) : t.val * 512 + (r : Nat) < 4096 := by
  have h : t.val < 8 := lt_of_lt_of_eq t.isLt N_0
  omega

/-- One row of one block: the payload at row `r` of point `t` is the rank of element `512·t + r`. -/
theorem point (c : Dev nD) (s : Fin 4096 → EReal) (h6 : ∀ j : Fin 4096, V c main_v6 (ix2 j (0 : Fin 1)) = s j)
    (h7 : ∀ j : Fin 4096, V c main_v7 (ix2 (0 : Fin 1) j) = s j) (t : Fin cfg0.N) (r : Fin 512) :
    k0_pay1 (grid0.coords t) (iblk0 V c 0 t) (iblk0 V c 1 t) (ix2 r (0 : Fin 1))
      = ((rankOf s ⟨_, row_lt t r⟩ : ℕ) : EReal) := by
  obtain ⟨e0, e1, e2, e3⟩ := idx t
  have h0 : iblk0 V c 0 t (ix2 r (0 : Fin 1)) = s ⟨_, row_lt t r⟩ := by
    rw [← h6]
    blk_ext [iblk0, e0]
  have h1 : ∀ j : Fin 4096, iblk0 V c 1 t (ix2 (0 : Fin 1) j) = s j := fun j => by
    rw [← h7 j]
    blk_ext [iblk0, e1]
  rw [pay_apply, ← sum_rank]
  simp only [h0, h1, e3, Fin.lt_def]

/-- The rank array: where the two score arrays hold the scores `s`, element `j` of the result is the rank of `j`. -/
theorem final (c : Dev nD) (s : Fin 4096 → EReal) (h6 : ∀ j : Fin 4096, V c main_v6 (ix2 j (0 : Fin 1)) = s j)
    (h7 : ∀ j : Fin 4096, V c main_v7 (ix2 (0 : Fin 1) j) = s j) :
    (dat0 V c).arrAt 2 cfg0.N = fun y : S4096x1.Idx => (((rankOf s (y 0) : ℕ) : EReal) : Elt Ideal .f32) := by
  refine (dat0 V c).arrAt_eq_of_covers 2 _ (by decide +kernel) fun t _ y => ?_
  blk_simp
  rw [after0_2]
  frame_out
  have hy : y = (ix2 (y 0 : Fin 512) (0 : Fin 1) : S512x1.Idx) := by
    blk_ext
  have hq : (((View.whole main_v8).slice (win0_2.rect t)).emb y 0 : Fin 4096) = ⟨_, row_lt t (y 0)⟩ := by
    apply Fin.ext
    blk_simp [(idx t).2.2.1]
  rw [hq]
  exact (congrArg (k0_pay1 (grid0.coords t) (iblk0 V c 0 t) (iblk0 V c 1 t)) hy).trans (point V c s h6 h7 t (y 0))

end Cert.KernelIdeal.RankValue

end
-- ==== Proof.PoolValue.lean ====
module

public import proofs.«01_k».proof.Proof.RankValue

@[expose] public section

set_option maxRecDepth 16384

/-! # The pooling kernel: the rows of greatest score, in order, gated -/

noncomputable section

namespace Cert.KernelIdeal.PoolValue

open Idealize.ShloMosaic Idealize.ShloMosaic.TcCoe Idealize.SL.Sem
open Idealize.ShloMosaic.Pipeline (Dat)
open Cert.KernelIdeal Cert.KernelIdeal.Gen Cert.Pool Cert.KernelIdeal.RankValue

/-- A small word read as a number. -/
theorem sitofp_word (n : Nat) (h : n < 4096) :
    (FloatOps.sitofp (F := Ideal) FTy.f32 (BitVec.ofNat 32 n) : EReal) = ((n : ℕ) : EReal) := by
  show (((BitVec.ofNat 32 n).toInt : ℝ) : EReal) = _
  rw [BitVec.toInt_eq_toNat_of_lt (by rw [BitVec.toNat_ofNat]; omega), BitVec.toNat_ofNat,
    Nat.mod_eq_of_lt (by omega)]
  simp

/-- What the pooling kernel stores: the one-hot row of position `512·i + r` times the rows, gated by the tanh of the
    one-hot row times the scores. -/
theorem pay_apply (i : grid1.Coords) (x0 : Vec Ideal S1x4096 .f32) (x1 : Vec Ideal S4096x64 .f32)
    (x2 : Vec Ideal S4096x1 .f32) (r : Fin 512) (l : Fin 64) :
    k1_pay3 i x0 x1 x2 (ix2 r l)
      = (∑ j : Fin 4096, (if x0 (ix2 0 j) = (((i 0 : Nat) * 512 + (r : Nat) : ℕ) : EReal) then (1 : EReal) else 0) * x1 (ix2 j l))
        * Ideal.tanh (∑ j : Fin 4096,
            (if x0 (ix2 0 j) = (((i 0 : Nat) * 512 + (r : Nat) : ℕ) : EReal) then (1 : EReal) else 0) * x2 (ix2 j 0)) := by
  have hi : (i 0 : Nat) < 4 := (i 0).isLt
  pointwise [k1_pay3, k1_pay2, k1_pay1]
  rw [row_word _ _ (by omega) r.isLt, sitofp_word _ (by omega)]
  simp only [sitofp_bit]

variable (V : (c : Dev nD) → (b : Ref sig .tc) → Buf (Elt Ideal) ((c : Thread nD τ).loc b))

theorem idx : ∀ t : Fin cfg1.N, win1_0.index t = ![0, 0] ∧ win1_1.index t = ![0, 0] ∧ win1_2.index t = ![0, 0]
    ∧ win1_3.index t = ![t.val, 0] ∧ (grid1.coords t 0).val = t.val :=
  (by decide +kernel : ∀ t : Fin grid1.N, _)

theorem row_lt (t : Fin cfg1.N) (r : Fin 512) : t.val * 512 + (r : Nat) < 2048 := by
  have h : t.val < 4 := lt_of_lt_of_eq t.isLt N_1
  omega

/-- One entry of one block: the payload at row `r` of point `t` is the entry of the element picked at position
    `512·t + r`, times the tanh of its score. -/
theorem point (c : Dev nD) (s : Fin 4096 → EReal) (x : Fin 4096 → Fin 64 → EReal)
    (hx : ∀ (j : Fin 4096) (l : Fin 64), V c main_arg0 (ix2 j l) = x j l) (h9 : ∀ j : Fin 4096, V c main_v9 (ix2 (0 : Fin 1) j) = ((rankOf s j : ℕ) : EReal))
    (h6 : ∀ j : Fin 4096, V c main_v6 (ix2 j (0 : Fin 1)) = s j) (t : Fin cfg1.N) (r : Fin 512) (l : Fin 64) :
    k1_pay3 (grid1.coords t) (iblk1 V c 0 t) (iblk1 V c 1 t) (iblk1 V c 2 t) (ix2 r l)
      = x (pick s ⟨_, (row_lt t r).trans (by decide)⟩) l
        * Ideal.tanh (s (pick s ⟨_, (row_lt t r).trans (by decide)⟩)) := by
  obtain ⟨e0, e1, e2, e3, e4⟩ := idx t
  have h0 : ∀ j : Fin 4096, iblk1 V c 0 t (ix2 (0 : Fin 1) j) = ((rankOf s j : ℕ) : EReal) := fun j => by
    rw [← h9 j]
    blk_ext [iblk1, e0]
  have h1 : ∀ j : Fin 4096, iblk1 V c 1 t (ix2 j l) = x j l := fun j => by
    rw [← hx j l]
    blk_ext [iblk1, e1]
  have h2 : ∀ j : Fin 4096, iblk1 V c 2 t (ix2 j (0 : Fin 1)) = s j := fun j => by
    rw [← h6 j]
    blk_ext [iblk1, e2]
  have hr : ∀ j : Fin 4096, (((rankOf s j : ℕ) : EReal) = ((t.val * 512 + (r : Nat) : ℕ) : EReal))
      = (j = pick s ⟨_, (row_lt t r).trans (by decide)⟩) := fun j => by
    rw [← rankOf_eq_iff, Nat.cast_inj]
  rw [pay_apply]
  simp only [h0, h1, h2, e4, hr]
  rw [sum_oneHot, sum_oneHot]

/-- The pooled array: row `p` is the row of the element picked at position `p`, times the tanh of its score. -/
theorem final (c : Dev nD) (s : Fin 4096 → EReal) (x : Fin 4096 → Fin 64 → EReal)
    (hx : ∀ (j : Fin 4096) (l : Fin 64), V c main_arg0 (ix2 j l) = x j l) (h9 : ∀ j : Fin 4096, V c main_v9 (ix2 (0 : Fin 1) j) = ((rankOf s j : ℕ) : EReal))
    (h6 : ∀ j : Fin 4096, V c main_v6 (ix2 j (0 : Fin 1)) = s j) :
    (dat1 V c).arrAt 3 cfg1.N = fun y : S2048x64.Idx =>
      ((x (pick s ((y 0 : Fin 2048).castLE (by decide))) (y 1)
        * Ideal.tanh (s (pick s ((y 0 : Fin 2048).castLE (by decide)))) : EReal) : Elt Ideal .f32) := by
  refine (dat1 V c).arrAt_eq_of_covers 3 _ (by decide +kernel) fun t _ y => ?_
  blk_simp
  rw [after1_3]
  frame_out
  have hy : y = (ix2 (y 0 : Fin 512) (y 1 : Fin 64) : S512x64.Idx) := by
    blk_ext
  have hq : (((View.whole main_v10_0).slice (win1_3.rect t)).emb y 0 : Fin 2048) = ⟨_, row_lt t (y 0)⟩ := by
    apply Fin.ext
    blk_simp [(idx t).2.2.2.1]
  have hl : (((View.whole main_v10_0).slice (win1_3.rect t)).emb y 1 : Fin 64) = (y 1 : Fin 64) := by
    apply Fin.ext
    blk_simp [(idx t).2.2.2.1]
  rw [hq, hl]
  exact (congrArg (k1_pay3 (grid1.coords t) (iblk1 V c 0 t) (iblk1 V c 1 t) (iblk1 V c 2 t)) hy).trans
    (point V c s x hx h9 h6 t (y 0) (y 1))

end Cert.KernelIdeal.PoolValue

end
-- ==== Proof.Spec.lean ====
module

public import proofs.«01_k».proof.Proof.Order
public import Idealize.ShloMosaic.PureOps.Ideal
public import Mathlib.Data.EReal.Operations

@[expose] public section

/-! # The numbers of the problem as functions of extended reals

One node's representation along one feature (a two-layer perceptron and a layer normalisation), and the softmax of a row. -/

noncomputable section

namespace Cert.Pool

open Idealize.ShloMosaic

/-- The word of 64. -/
abbrev c64 : EReal := Ideal.ofBits .f32 0x42800000#32

/-- The word of the layer normalisation's small constant. -/
abbrev ceps : EReal := Ideal.ofBits .f32 0x3727C5AC#32

/-- The second layer's outputs for the scalar `v`, clipped below at zero. -/
def relu2 (v : EReal) (W1 b1 : Fin 64 → EReal) (W2 : Fin 64 → Fin 64 → EReal) (b2 : Fin 64 → EReal) (h : Fin 64) : EReal :=
  max ((∑ k, Ideal.tanh (v * W1 k + b1 k) * W2 k h) + b2 h) 0

/-- The mean of 64 numbers. -/
def mean (f : Fin 64 → EReal) : EReal := Ideal.div (∑ h, f h) c64

/-- The layer normalisation of 64 numbers. -/
def layerNorm (f g beta : Fin 64 → EReal) (h : Fin 64) : EReal :=
  Ideal.div (f h - mean f) (Ideal.sqrt (mean (fun h => (f h - mean f) * (f h - mean f)) + ceps)) * g h + beta h

/-- The representation of the scalar `v`: two layers, then the normalisation. -/
def rep (v : EReal) (W1 b1 : Fin 64 → EReal) (W2 : Fin 64 → Fin 64 → EReal) (b2 g beta : Fin 64 → EReal) : Fin 64 → EReal :=
  layerNorm (relu2 v W1 b1 W2 b2) g beta

/-- The softmax of a row of numbers, its largest subtracted first. -/
def softmax {n : Nat} (z : Fin n → EReal) (q : Fin n) : EReal :=
  Ideal.div (Ideal.exp (z q - Finset.univ.fold max ⊥ z)) (∑ k, Ideal.exp (z k - Finset.univ.fold max ⊥ z))

/-- The score of node `j`: its features' dot product with the pooling weights, over the weights' length. -/
def score (a : Fin 4096 → Fin 64 → EReal) (w : Fin 64 → EReal) (j : Fin 4096) : EReal :=
  Ideal.div (∑ k, a j k * w k) (Ideal.sqrt (∑ k, w k * w k))

/-- The node picked at position `p` of the pooled nodes. -/
def picked (s : Fin 4096 → EReal) (p : Fin 2048) : Fin 4096 := pick s (p.castLE (by decide))

/-- Feature `l` of the pooled node at position `p`: the picked node's, times the tanh of its score. -/
def pooled (a : Fin 4096 → Fin 64 → EReal) (s : Fin 4096 → EReal) (p : Fin 2048) (l : Fin 64) : EReal :=
  a (picked s p) l * Ideal.tanh (s (picked s p))

/-- Column `k` of row `p` of 64 feature arrays `[N, 64]` read as rows of 4096: which node and which entry it is. -/
def nodeOf (p : Fin 4096) (k : Fin 4096) : Fin 4096 := ⟨p.val % 64 * 64 + k.val / 64, by have := k.isLt; omega⟩
def supOf (q : Fin 2048) (k : Fin 4096) : Fin 2048 := ⟨q.val % 32 * 64 + k.val / 64, by have := k.isLt; omega⟩
def featOf (p : Fin 4096) : Fin 64 := ⟨p.val / 64, by have := p.isLt; omega⟩
def supFeatOf (q : Fin 2048) : Fin 64 := ⟨q.val / 32, by have := q.isLt; omega⟩
def entryOf (k : Fin 4096) : Fin 64 := ⟨k.val % 64, by omega⟩

end Cert.Pool

end
-- ==== Proof.MlpPay.lean ====
module

public import proofs.«01_k».proof.Proof.Gen.KernelIdeal.Frame
public import proofs.«01_k».proof.Proof.RankValue
public import proofs.«01_k».proof.Proof.Spec

@[expose] public section

set_option maxRecDepth 16384

/-! # One tile of the perceptron kernel: the representations of one row of scalars -/

noncomputable section

namespace Cert.KernelIdeal.MlpPay

open Idealize.ShloMosaic Idealize.ShloMosaic.TcCoe Idealize.SL.Sem
open Cert.KernelIdeal Cert.KernelIdeal.Gen Cert.Pool

/-- Two numbers below 64 agree as words exactly when they agree. -/
theorem eq_word (a b : Fin 64) :
    IntOp.cmpi .eq (BitVec.ofNat 32 a) (BitVec.ofNat 32 b) = BitVec.ofBool (decide (a = b)) := by
  simp only [IntOp.cmpi]
  congr 1
  rw [beq_eq_decide]
  refine decide_eq_decide.mpr ⟨fun h => ?_, fun h => by rw [h]⟩
  have := congrArg BitVec.toNat h
  simp only [BitVec.toNat_ofNat] at this
  apply Fin.ext
  omega

/-- Multiplying by the unit matrix and summing picks one term. -/
theorem sum_eye (f : Fin 64 → EReal) (h : Fin 64) : ∑ x, f x * (if x = h then (1 : EReal) else 0) = f h := by
  rw [← sum_oneHot h f]
  exact Finset.sum_congr rfl fun x _ => mul_comm _ _

/-- A column of 64 as a function. -/
abbrev col {φ : EltTy} (x : Vec Ideal S64x1 φ) : Fin 64 → Elt Ideal φ := fun k => x (ix2 k (0 : Fin 1))

/-- A transposed matrix as a function. -/
abbrev matT (x : Vec Ideal S64x64 .bf16) : Fin 64 → Fin 64 → EReal := fun k h => x (ix2 h k)

/-- The tile of 4096 scalars, as the first store computes it. -/
def tileX (row : Vec Ideal S1x4096 .f32) (W1 b1 : Vec Ideal S64x1 .f32) (W2 : Vec Ideal S64x64 .bf16)
    (b2 g beta : Vec Ideal S64x1 .f32) : Vec Ideal S4096x64 .bf16 :=
  k2_pay8 k2_pay2 (k2_pay3 g) (k2_pay4 beta) (k2_pay5 row W1 b1 W2 b2) (k2_pay6 row W1 b1 W2 b2) (k2_pay7 row W1 b1 W2 b2)

/-- The tile of 2048 scalars, as the second store computes it. -/
def tileS (row : Vec Ideal S1x2048 .f32) (W1 b1 : Vec Ideal S64x1 .f32) (W2 : Vec Ideal S64x64 .bf16)
    (b2 g beta : Vec Ideal S64x1 .f32) : Vec Ideal S2048x64 .bf16 :=
  k2_pay14 k2_pay2 (k2_pay9 W2) (k2_pay10 b2) (k2_pay11 g) (k2_pay12 beta) (k2_pay13 row W1 b1) (constant S64x2048 .f32 0x00000000#32)

/-- The two layers of the kernel, whose products stand the other way round. -/
theorem relu2_swap (v : EReal) (W1 b1 : Fin 64 → EReal) (W2 : Fin 64 → Fin 64 → EReal) (b2 : Fin 64 → EReal) (h : Fin 64) :
    max (∑ x, W2 x h * Ideal.tanh (W1 x * v + b1 x) + b2 h) 0 = relu2 v W1 b1 W2 b2 h := by
  simp only [relu2]
  congr 2
  exact Finset.sum_congr rfl fun k _ => by rw [mul_comm v, mul_comm (W2 k h)]

/-- Entry `(n, h)` of the tile of 4096: feature `h` of the representation of scalar `n`. -/
theorem tileX_apply (row : Vec Ideal S1x4096 .f32) (W1 b1 : Vec Ideal S64x1 .f32) (W2 : Vec Ideal S64x64 .bf16)
    (b2 g beta : Vec Ideal S64x1 .f32) (n : Fin 4096) (h : Fin 64) :
    tileX row W1 b1 W2 b2 g beta (ix2 n h)
      = rep (row (ix2 (0 : Fin 1) n)) (col W1) (col b1) (matT W2) (col b2) (col g) (col beta) h := by
  have h5 : ∀ k : Fin 64, k2_pay5 row W1 b1 W2 b2 (ix2 k n) = relu2 (row (ix2 (0 : Fin 1) n)) (col W1) (col b1) (matT W2) (col b2) k := fun k => by
    pointwise [k2_pay5]
    exact relu2_swap (row (ix2 (0 : Fin 1) n)) (col W1) (col b1) (matT W2) (col b2) k
  pointwise [tileX, k2_pay8, k2_pay2, k2_pay3, k2_pay4, k2_pay6, k2_pay7, h5]
  simp only [eq_word, RankValue.sitofp_bit]
  exact sum_eye (rep (row (ix2 (0 : Fin 1) n)) (col W1) (col b1) (matT W2) (col b2) (col g) (col beta)) h

/-- Entry `(n, h)` of the tile of 2048: feature `h` of the representation of scalar `n`. -/
theorem tileS_apply (row : Vec Ideal S1x2048 .f32) (W1 b1 : Vec Ideal S64x1 .f32) (W2 : Vec Ideal S64x64 .bf16)
    (b2 g beta : Vec Ideal S64x1 .f32) (n : Fin 2048) (h : Fin 64) :
    tileS row W1 b1 W2 b2 g beta (ix2 n h)
      = rep (row (ix2 (0 : Fin 1) n)) (col W1) (col b1) (matT W2) (col b2) (col g) (col beta) h := by
  pointwise [tileS, k2_pay14, k2_pay2, k2_pay9, k2_pay10, k2_pay11, k2_pay12, k2_pay13]
  simp only [eq_word, RankValue.sitofp_bit]
  refine (Finset.sum_congr rfl fun x _ => ?_).trans
    (sum_eye (rep (row (ix2 (0 : Fin 1) n)) (col W1) (col b1) (matT W2) (col b2) (col g) (col beta)) h)
  simp only [rep, layerNorm, mean, ← relu2_swap]

end Cert.KernelIdeal.MlpPay

end
-- ==== Proof.HostValue.lean ====
module

public import proofs.«01_k».proof.Proof.RankValue
public import proofs.«01_k».proof.Proof.PoolValue
public import proofs.«01_k».proof.Proof.MlpPay
public import proofs.«01_k».proof.Proof.Spec

@[expose] public section

set_option maxRecDepth 16384

/-! # What the kernel's host code hands to each region -/

noncomputable section

namespace Cert.KernelIdeal.HostValue

open Idealize.ShloMosaic Idealize.ShloMosaic.TcCoe Idealize.SL.Sem
open Cert.KernelIdeal Cert.KernelIdeal.Gen Cert.Pool

variable (m : (ℓ : Loc nD τ sig) → Buf (Elt Ideal) ℓ) (ρ : Dev nD → PrngReg) (c : Dev nD)

/-- The argument arrays as functions. -/
abbrev feat (j : Fin 4096) (l : Fin 64) : EReal := m ((c : Thread nD τ).loc main_arg0) (ix2 j l)
abbrev weight (k : Fin 64) : EReal := m ((c : Thread nD τ).loc main_arg2) (ix1 k)
abbrev scores : Fin 4096 → EReal := score (feat m c) (weight m c)

/-- The length of a vector as the host computes it. -/
def lengthOf (w : FVec Ideal S64 .f32) : FVec Ideal S_ .f32 :=
  Host.sqrt (Host.reduceAdd (mulf w w) (constant (F := Ideal) S_ .f32 0x00000000#32) reducesTo_S64_S_d0 h_S_)

/-- The length is the root of the sum of squares. -/
theorem lengthOf_apply (w : FVec Ideal S64 .f32) (i : S_.Idx) :
    lengthOf w i = Ideal.sqrt (∑ k : Fin 64, w (ix1 k) * w (ix1 k)) := by
  pointwise [lengthOf]

/-- The scores as a column. -/
theorem v6_apply (j : Fin 4096) : V3 m ρ c main_v6 (ix2 j (0 : Fin 1)) = scores m c j := by
  show (StableHlo.after hostOps0_2 (StableHlo.after hostOps0_1 (StableHlo.after hostOps0 (W0 m ρ c)))) (Proc.devRef .tc main_v6) _ = _
  after_results
  pointwise []
  refine congrArg (Ideal.div _) ?_
  exact lengthOf_apply (W0 m ρ c (Proc.devRef .tc main_arg2)) _

/-- The scores as a row. -/
theorem v7_apply (j : Fin 4096) : V3 m ρ c main_v7 (ix2 (0 : Fin 1) j) = scores m c j := by
  show (StableHlo.after hostOps0_2 (StableHlo.after hostOps0_1 (StableHlo.after hostOps0 (W0 m ρ c)))) (Proc.devRef .tc main_v7) _ = _
  after_results
  pointwise []
  refine congrArg (Ideal.div _) ?_
  exact lengthOf_apply (W0 m ρ c (Proc.devRef .tc main_arg2)) _

/-- The first region leaves every node's rank. -/
theorem v8_eq : W4 m ρ c (Proc.devRef .tc main_v8)
    = fun y : S4096x1.Idx => (((rankOf (scores m c) (y 0) : ℕ) : EReal) : Elt Ideal .f32) :=
  (W4_arr m ρ c 2).trans (RankValue.final (V3 m ρ) c (scores m c) (v6_apply m ρ c) (v7_apply m ρ c))

/-- The ranks as a row. -/
theorem v9_apply (j : Fin 4096) : V5 m ρ c main_v9 (ix2 (0 : Fin 1) j) = ((rankOf (scores m c) j : ℕ) : EReal) := by
  have h : V5 m ρ c main_v9 (ix2 (0 : Fin 1) j) = W4 m ρ c (Proc.devRef .tc main_v8) (ix2 j (0 : Fin 1)) := by
    show (StableHlo.after hostOps1 (W4 m ρ c)) (Proc.devRef .tc main_v9) _ = _
    after_results
    pointwise []
  exact h.trans (congrFun (v8_eq m ρ c) _)

/-- The scores reach the second region unchanged. -/
theorem v6_late (j : Fin 4096) : V5 m ρ c main_v6 (ix2 j (0 : Fin 1)) = scores m c j :=
  (congrFun ((W5_of m ρ c main_v6 (by decide)).trans (W4_of m ρ c main_v6 (by decide +kernel))) _).trans (v6_apply m ρ c j)

/-- The second region leaves the picked nodes' rows, each times the tanh of its score. -/
theorem v10_eq : W6 m ρ c (Proc.devRef .tc main_v10_0)
    = fun y : S2048x64.Idx => pooled (feat m c) (scores m c) (y 0) (y 1) :=
  (W6_arr m ρ c 3).trans (PoolValue.final (V5 m ρ) c (scores m c) (feat m c)
    (fun j l => congrFun (W5_args m ρ c main_arg0 (by decide)) (ix2 j l)) (v9_apply m ρ c) (v6_late m ρ c))

/-- The features, node by node along the lanes. -/
theorem v11_apply (l : Fin 64) (n : Fin 4096) : V7 m ρ c main_v11 (ix2 l n) = feat m c n l := by
  have h : V7 m ρ c main_v11 (ix2 l n) = W6 m ρ c (Proc.devRef .tc main_arg0) (ix2 n l) := by
    show (StableHlo.after hostOps2 (W6 m ρ c)) (Proc.devRef .tc main_v11) _ = _
    after_results
    pointwise []
  exact h.trans (congrFun (W6_args m ρ c main_arg0 (by decide)) _)

/-- The pooled features, node by node along the lanes. -/
theorem v12_apply (l : Fin 64) (n : Fin 2048) : V7 m ρ c main_v12 (ix2 l n) = pooled (feat m c) (scores m c) n l := by
  have h : V7 m ρ c main_v12 (ix2 l n) = W6 m ρ c (Proc.devRef .tc main_v10_0) (ix2 n l) := by
    show (StableHlo.after hostOps2 (W6 m ρ c)) (Proc.devRef .tc main_v12) _ = _
    after_results
    pointwise []
  exact h.trans (congrFun (v10_eq m ρ c) _)

/-- The nodes' first weights as the third region reads them. -/
theorem v13_eq : MlpPay.col (V7 m ρ c main_v13) = fun k => m ((c : Thread nD τ).loc main_arg3) (ix2 (0 : Fin 1) k) := by
  funext k
  have h : V7 m ρ c main_v13 (ix2 k (0 : Fin 1)) = W6 m ρ c (Proc.devRef .tc main_arg3) (ix2 (0 : Fin 1) k) := by
    show (StableHlo.after hostOps2 (W6 m ρ c)) (Proc.devRef .tc main_v13) _ = _
    after_results
    pointwise []
  exact h.trans (congrFun (W6_args m ρ c main_arg3 (by decide)) _)

/-- The nodes' first bias as the third region reads them. -/
theorem v14_eq : MlpPay.col (V7 m ρ c main_v14) = fun k => m ((c : Thread nD τ).loc main_arg4) (ix1 k) := by
  funext k
  have h : V7 m ρ c main_v14 (ix2 k (0 : Fin 1)) = W6 m ρ c (Proc.devRef .tc main_arg4) (ix1 k) := by
    show (StableHlo.after hostOps2 (W6 m ρ c)) (Proc.devRef .tc main_v14) _ = _
    after_results
    pointwise []
  exact h.trans (congrFun (W6_args m ρ c main_arg4 (by decide)) _)

/-- The nodes' second weights as the third region reads them. -/
theorem v16_eq : MlpPay.matT (V7 m ρ c main_v16) = fun k h => m ((c : Thread nD τ).loc main_arg5) (ix2 k h) := by
  funext k h
  have e : V7 m ρ c main_v16 (ix2 h k) = W6 m ρ c (Proc.devRef .tc main_arg5) (ix2 k h) := by
    show (StableHlo.after hostOps2 (W6 m ρ c)) (Proc.devRef .tc main_v16) _ = _
    after_results
    pointwise []
  exact e.trans (congrFun (W6_args m ρ c main_arg5 (by decide)) _)

/-- The nodes' second bias as the third region reads them. -/
theorem v17_eq : MlpPay.col (V7 m ρ c main_v17) = fun k => m ((c : Thread nD τ).loc main_arg6) (ix1 k) := by
  funext k
  have h : V7 m ρ c main_v17 (ix2 k (0 : Fin 1)) = W6 m ρ c (Proc.devRef .tc main_arg6) (ix1 k) := by
    show (StableHlo.after hostOps2 (W6 m ρ c)) (Proc.devRef .tc main_v17) _ = _
    after_results
    pointwise []
  exact h.trans (congrFun (W6_args m ρ c main_arg6 (by decide)) _)

/-- The nodes' scale as the third region reads them. -/
theorem v18_eq : MlpPay.col (V7 m ρ c main_v18) = fun k => m ((c : Thread nD τ).loc main_arg7) (ix1 k) := by
  funext k
  have h : V7 m ρ c main_v18 (ix2 k (0 : Fin 1)) = W6 m ρ c (Proc.devRef .tc main_arg7) (ix1 k) := by
    show (StableHlo.after hostOps2 (W6 m ρ c)) (Proc.devRef .tc main_v18) _ = _
    after_results
    pointwise []
  exact h.trans (congrFun (W6_args m ρ c main_arg7 (by decide)) _)

/-- The nodes' shift as the third region reads them. -/
theorem v19_eq : MlpPay.col (V7 m ρ c main_v19) = fun k => m ((c : Thread nD τ).loc main_arg8) (ix1 k) := by
  funext k
  have h : V7 m ρ c main_v19 (ix2 k (0 : Fin 1)) = W6 m ρ c (Proc.devRef .tc main_arg8) (ix1 k) := by
    show (StableHlo.after hostOps2 (W6 m ρ c)) (Proc.devRef .tc main_v19) _ = _
    after_results
    pointwise []
  exact h.trans (congrFun (W6_args m ρ c main_arg8 (by decide)) _)

/-- The supernodes' first weights as the third region reads them. -/
theorem v20_eq : MlpPay.col (V7 m ρ c main_v20) = fun k => m ((c : Thread nD τ).loc main_arg9) (ix2 (0 : Fin 1) k) := by
  funext k
  have h : V7 m ρ c main_v20 (ix2 k (0 : Fin 1)) = W6 m ρ c (Proc.devRef .tc main_arg9) (ix2 (0 : Fin 1) k) := by
    show (StableHlo.after hostOps2 (W6 m ρ c)) (Proc.devRef .tc main_v20) _ = _
    after_results
    pointwise []
  exact h.trans (congrFun (W6_args m ρ c main_arg9 (by decide)) _)

/-- The supernodes' first bias as the third region reads them. -/
theorem v21_eq : MlpPay.col (V7 m ρ c main_v21) = fun k => m ((c : Thread nD τ).loc main_arg10) (ix1 k) := by
  funext k
  have h : V7 m ρ c main_v21 (ix2 k (0 : Fin 1)) = W6 m ρ c (Proc.devRef .tc main_arg10) (ix1 k) := by
    show (StableHlo.after hostOps2 (W6 m ρ c)) (Proc.devRef .tc main_v21) _ = _
    after_results
    pointwise []
  exact h.trans (congrFun (W6_args m ρ c main_arg10 (by decide)) _)

/-- The supernodes' second weights as the third region reads them. -/
theorem v23_eq : MlpPay.matT (V7 m ρ c main_v23) = fun k h => m ((c : Thread nD τ).loc main_arg11) (ix2 k h) := by
  funext k h
  have e : V7 m ρ c main_v23 (ix2 h k) = W6 m ρ c (Proc.devRef .tc main_arg11) (ix2 k h) := by
    show (StableHlo.after hostOps2 (W6 m ρ c)) (Proc.devRef .tc main_v23) _ = _
    after_results
    pointwise []
  exact e.trans (congrFun (W6_args m ρ c main_arg11 (by decide)) _)

/-- The supernodes' second bias as the third region reads them. -/
theorem v24_eq : MlpPay.col (V7 m ρ c main_v24) = fun k => m ((c : Thread nD τ).loc main_arg12) (ix1 k) := by
  funext k
  have h : V7 m ρ c main_v24 (ix2 k (0 : Fin 1)) = W6 m ρ c (Proc.devRef .tc main_arg12) (ix1 k) := by
    show (StableHlo.after hostOps2 (W6 m ρ c)) (Proc.devRef .tc main_v24) _ = _
    after_results
    pointwise []
  exact h.trans (congrFun (W6_args m ρ c main_arg12 (by decide)) _)

/-- The supernodes' scale as the third region reads them. -/
theorem v25_eq : MlpPay.col (V7 m ρ c main_v25) = fun k => m ((c : Thread nD τ).loc main_arg13) (ix1 k) := by
  funext k
  have h : V7 m ρ c main_v25 (ix2 k (0 : Fin 1)) = W6 m ρ c (Proc.devRef .tc main_arg13) (ix1 k) := by
    show (StableHlo.after hostOps2 (W6 m ρ c)) (Proc.devRef .tc main_v25) _ = _
    after_results
    pointwise []
  exact h.trans (congrFun (W6_args m ρ c main_arg13 (by decide)) _)

/-- The supernodes' shift as the third region reads them. -/
theorem v26_eq : MlpPay.col (V7 m ρ c main_v26) = fun k => m ((c : Thread nD τ).loc main_arg14) (ix1 k) := by
  funext k
  have h : V7 m ρ c main_v26 (ix2 k (0 : Fin 1)) = W6 m ρ c (Proc.devRef .tc main_arg14) (ix1 k) := by
    show (StableHlo.after hostOps2 (W6 m ρ c)) (Proc.devRef .tc main_v26) _ = _
    after_results
    pointwise []
  exact h.trans (congrFun (W6_args m ρ c main_arg14 (by decide)) _)

end Cert.KernelIdeal.HostValue
end
-- ==== Proof.MlpTiles.lean ====
module

public import proofs.«01_k».proof.Proof.MlpPay

@[expose] public section

set_option maxRecDepth 16384

/-! # One block of the perceptron kernel: eight tiles of representations, stacked -/

noncomputable section

namespace Cert.KernelIdeal.MlpTiles

open Idealize.ShloMosaic Idealize.ShloMosaic.TcCoe Idealize.SL.Sem
open Cert.KernelIdeal Cert.KernelIdeal.Gen Cert.KernelIdeal.MlpPay Cert.Pool

/-- Loading a whole column gives the column. -/
theorem ld_col (x : Vec Ideal S64x1 .f32) : View.ld x r2_1 = x :=
  View.ld_unit_lit inb_S64x1_S64x1_0_0 x (by decide)

/-- Loading a whole matrix gives the matrix. -/
theorem ld_mat (x : Vec Ideal S64x64 .bf16) : View.ld x r2_2 = x :=
  View.ld_unit_lit inb_S64x64_S64x64_0_0 x (by decide)

/-- The tile of row `j` of a block of eight rows of 4096, stored at row `4096·j`. -/
theorem tile_x (x0 : Vec Ideal S8x4096 .f32) (x2 x3 : Vec Ideal S64x1 .f32) (x4 : Vec Ideal S64x64 .bf16) (x5 x6 x7 : Vec Ideal S64x1 .f32)
    (j : Nat) (inb) (y : S32768x64.Idx) (l : Fin 8) (n : Fin 4096) (hy : (y 0 : Nat) = l * 4096 + n) (x : S4096x64.Idx)
    (h0 : (y 0 : Nat) = j * 4096 + x 0) (h1 : (y 1 : Nat) = x 1) :
    tileX (View.ld x0 (Rect.unit (s := S8x4096) ![j, 0] S1x4096.size inb)) (View.ld x2 r2_1) (View.ld x3 r2_1) (View.ld x4 r2_2)
        (View.ld x5 r2_1) (View.ld x6 r2_1) (View.ld x7 r2_1) x
      = rep (x0 (ix2 l n)) (col x2) (col x3) (matT x4) (col x5) (col x6) (col x7) (y 1) := by
  have hb : (x 0 : Nat) < 4096 := (x 0).isLt
  have hn := n.isLt
  have hx : x = (ix2 (x 0 : Fin 4096) (x 1 : Fin 64) : S4096x64.Idx) := by blk_ext
  have h1' : (y 1 : Fin 64) = (x 1 : Fin 64) := Fin.ext h1
  have hr : View.ld x0 (Rect.unit (s := S8x4096) ![j, 0] S1x4096.size inb) (ix2 (0 : Fin 1) (x 0 : Fin 4096)) = x0 (ix2 l n) :=
    View.ld_unit_apply_of x0 _ _ inb _ _ fun a => by
      fin_cases a
      · show (l : Nat) = j + 0
        omega
      · show (n : Nat) = 0 + x 0
        omega
  simp only [ld_col, ld_mat]
  rw [h1', ← hr]
  exact (congrArg _ hx).trans (tileX_apply _ x2 x3 x4 x5 x6 x7 (x 0) (x 1))

/-- The tile of row `j` of a block of eight rows of 2048, stored at row `2048·j`. -/
theorem tile_s (x1 : Vec Ideal S8x2048 .f32) (x2 x3 : Vec Ideal S64x1 .f32) (x4 : Vec Ideal S64x64 .bf16) (x5 x6 x7 : Vec Ideal S64x1 .f32)
    (j : Nat) (inb) (y : S16384x64.Idx) (l : Fin 8) (n : Fin 2048) (hy : (y 0 : Nat) = l * 2048 + n) (x : S2048x64.Idx)
    (h0 : (y 0 : Nat) = j * 2048 + x 0) (h1 : (y 1 : Nat) = x 1) :
    tileS (View.ld x1 (Rect.unit (s := S8x2048) ![j, 0] S1x2048.size inb)) (View.ld x2 r2_1) (View.ld x3 r2_1) (View.ld x4 r2_2)
        (View.ld x5 r2_1) (View.ld x6 r2_1) (View.ld x7 r2_1) x
      = rep (x1 (ix2 l n)) (col x2) (col x3) (matT x4) (col x5) (col x6) (col x7) (y 1) := by
  have hb : (x 0 : Nat) < 2048 := (x 0).isLt
  have hn := n.isLt
  have hx : x = (ix2 (x 0 : Fin 2048) (x 1 : Fin 64) : S2048x64.Idx) := by blk_ext
  have h1' : (y 1 : Fin 64) = (x 1 : Fin 64) := Fin.ext h1
  have hr : View.ld x1 (Rect.unit (s := S8x2048) ![j, 0] S1x2048.size inb) (ix2 (0 : Fin 1) (x 0 : Fin 2048)) = x1 (ix2 l n) :=
    View.ld_unit_apply_of x1 _ _ inb _ _ fun a => by
      fin_cases a
      · show (l : Nat) = j + 0
        omega
      · show (n : Nat) = 0 + x 0
        omega
  simp only [ld_col, ld_mat]
  rw [h1', ← hr]
  exact (congrArg _ hx).trans (tileS_apply _ x2 x3 x4 x5 x6 x7 (x 0) (x 1))

/-- The block of node representations: row `4096·l + n` represents entry `(l, n)` of the block of scalars. -/
theorem block14 (x0 : Vec Ideal S8x4096 .f32) (x1 : Vec Ideal S8x2048 .f32) (x2 x3 : Vec Ideal S64x1 .f32) (x4 : Vec Ideal S64x64 .bf16)
    (x5 x6 x7 x8 x9 : Vec Ideal S64x1 .f32) (x10 : Vec Ideal S64x64 .bf16) (x11 x12 x13 : Vec Ideal S64x1 .f32) (y : S32768x64.Idx)
    (l : Fin 8) (n : Fin 4096) (hy : (y 0 : Nat) = l * 4096 + n) :
    out2_14 x0 x1 x2 x3 x4 x5 x6 x7 x8 x9 x10 x11 x12 x13 y
      = rep (x0 (ix2 l n)) (col x2) (col x3) (matT x4) (col x5) (col x6) (col x7) (y 1) := by
  canon_tiles x h
  case piece0 => exact tile_x x0 x2 x3 x4 x5 x6 x7 7 inb_S8x4096_S1x4096_7_0 y l n hy x (by omega) h1
  case piece1 => exact tile_x x0 x2 x3 x4 x5 x6 x7 6 inb_S8x4096_S1x4096_6_0 y l n hy x (by omega) h1
  case piece2 => exact tile_x x0 x2 x3 x4 x5 x6 x7 5 inb_S8x4096_S1x4096_5_0 y l n hy x (by omega) h1
  case piece3 => exact tile_x x0 x2 x3 x4 x5 x6 x7 4 inb_S8x4096_S1x4096_4_0 y l n hy x (by omega) h1
  case piece4 => exact tile_x x0 x2 x3 x4 x5 x6 x7 3 inb_S8x4096_S1x4096_3_0 y l n hy x (by omega) h1
  case piece5 => exact tile_x x0 x2 x3 x4 x5 x6 x7 2 inb_S8x4096_S1x4096_2_0 y l n hy x (by omega) h1
  case piece6 => exact tile_x x0 x2 x3 x4 x5 x6 x7 1 inb_S8x4096_S1x4096_1_0 y l n hy x (by omega) h1
  case piece7 =>
    have h0' : (y 0 : Nat) = 0 * 4096 + x 0 := by rw [Nat.zero_mul, Nat.zero_add]; exact h0
    have h := tile_x x0 x2 x3 x4 x5 x6 x7 0 inb_S8x4096_S1x4096_0_0 y l n hy x h0' h1
    unfold tileX at h
    unfold k2_pay96
    exact h

/-- The block of pooled representations: row `2048·l + n` represents entry `(l, n)` of the block of pooled scalars. -/
theorem block15 (x0 : Vec Ideal S8x4096 .f32) (x1 : Vec Ideal S8x2048 .f32) (x2 x3 : Vec Ideal S64x1 .f32) (x4 : Vec Ideal S64x64 .bf16)
    (x5 x6 x7 x8 x9 : Vec Ideal S64x1 .f32) (x10 : Vec Ideal S64x64 .bf16) (x11 x12 x13 : Vec Ideal S64x1 .f32) (y : S16384x64.Idx)
    (l : Fin 8) (n : Fin 2048) (hy : (y 0 : Nat) = l * 2048 + n) :
    out2_15 x0 x1 x2 x3 x4 x5 x6 x7 x8 x9 x10 x11 x12 x13 y
      = rep (x1 (ix2 l n)) (col x8) (col x9) (matT x10) (col x11) (col x12) (col x13) (y 1) := by
  canon_tiles x h
  case piece0 => exact tile_s x1 x8 x9 x10 x11 x12 x13 7 inb_S8x2048_S1x2048_7_0 y l n hy x (by omega) h1
  case piece1 => exact tile_s x1 x8 x9 x10 x11 x12 x13 6 inb_S8x2048_S1x2048_6_0 y l n hy x (by omega) h1
  case piece2 => exact tile_s x1 x8 x9 x10 x11 x12 x13 5 inb_S8x2048_S1x2048_5_0 y l n hy x (by omega) h1
  case piece3 => exact tile_s x1 x8 x9 x10 x11 x12 x13 4 inb_S8x2048_S1x2048_4_0 y l n hy x (by omega) h1
  case piece4 => exact tile_s x1 x8 x9 x10 x11 x12 x13 3 inb_S8x2048_S1x2048_3_0 y l n hy x (by omega) h1
  case piece5 => exact tile_s x1 x8 x9 x10 x11 x12 x13 2 inb_S8x2048_S1x2048_2_0 y l n hy x (by omega) h1
  case piece6 => exact tile_s x1 x8 x9 x10 x11 x12 x13 1 inb_S8x2048_S1x2048_1_0 y l n hy x (by omega) h1
  case piece7 =>
    have h0' : (y 0 : Nat) = 0 * 2048 + x 0 := by rw [Nat.zero_mul, Nat.zero_add]; exact h0
    have h := tile_s x1 x8 x9 x10 x11 x12 x13 0 inb_S8x2048_S1x2048_0_0 y l n hy x h0' h1
    unfold tileS at h
    unfold k2_pay96
    exact h

end Cert.KernelIdeal.MlpTiles

end
-- ==== Proof.MlpValue.lean ====
module

public import proofs.«01_k».proof.Proof.MlpTiles

@[expose] public section

set_option maxRecDepth 16384
set_option maxHeartbeats 1000000

/-! # The perceptron kernel: the representation of every scalar -/

noncomputable section

namespace Cert.KernelIdeal.MlpValue

open Idealize.ShloMosaic Idealize.ShloMosaic.TcCoe Idealize.SL.Sem
open Idealize.ShloMosaic.Pipeline (Dat)
open Cert.KernelIdeal Cert.KernelIdeal.Gen Cert.KernelIdeal.MlpPay Cert.KernelIdeal.MlpTiles Cert.Pool

variable (V : (c : Dev nD) → (b : Ref sig .tc) → Buf (Elt Ideal) ((c : Thread nD τ).loc b))

theorem idx : ∀ t : Fin cfg2.N, win2_0.index t = ![t.val, 0] ∧ win2_1.index t = ![t.val, 0] ∧ win2_14.index t = ![t.val, 0]
    ∧ win2_15.index t = ![t.val, 0] :=
  (by decide +kernel : ∀ t : Fin grid2.N, _)

/-- The weights' windows hold their whole arrays at every point. -/
theorem idx_w : ∀ t : Fin cfg2.N, (win2_2.index t = ![0, 0] ∧ win2_3.index t = ![0, 0] ∧ win2_4.index t = ![0, 0]
    ∧ win2_5.index t = ![0, 0] ∧ win2_6.index t = ![0, 0] ∧ win2_7.index t = ![0, 0])
    ∧ (win2_8.index t = ![0, 0] ∧ win2_9.index t = ![0, 0] ∧ win2_10.index t = ![0, 0]
    ∧ win2_11.index t = ![0, 0] ∧ win2_12.index t = ![0, 0] ∧ win2_13.index t = ![0, 0]) :=
  (by decide +kernel : ∀ t : Fin grid2.N, _)

theorem t_lt (t : Fin cfg2.N) : t.val < 8 := lt_of_lt_of_eq t.isLt N_2

/-- Row `y` of block `t` of eight tiles of `N` rows is row `n` of tile `l` of all: within the block it is tile `l - 8·t`. -/
theorem tile_lt (t y l n : Nat) (N : Nat) (hn : n < N) (hy : y < 8 * N) (h : t * (8 * N) + y = l * N + n) :
    l - 8 * t < 8 ∧ 8 * t + (l - 8 * t) = l ∧ y = (l - 8 * t) * N + n := by
  have hN : 0 < N := by omega
  have h1 : 8 * t ≤ l := by
    by_contra hc
    have : (l + 1) * N ≤ 8 * t * N := Nat.mul_le_mul_right N (by omega)
    have e : t * (8 * N) = 8 * t * N := by ring
    rw [Nat.succ_mul] at this
    omega
  obtain ⟨k, rfl⟩ := Nat.exists_eq_add_of_le h1
  have e : (8 * t + k) * N = t * (8 * N) + k * N := by ring
  have hk : y = k * N + n := by omega
  have hk8 : k < 8 := by
    by_contra hc
    have : 8 * N ≤ k * N := Nat.mul_le_mul_right N (by omega)
    omega
  rw [Nat.add_sub_cancel_left]
  exact ⟨hk8, rfl, hk⟩

/-- One entry of one block of node representations. -/
theorem point14 (c : Dev nD) (x : Fin 64 → Fin 4096 → EReal) (hx : ∀ (l : Fin 64) (n : Fin 4096), V c main_v11 (ix2 l n) = x l n)
    (t : Fin cfg2.N) (y : S32768x64.Idx) (l : Fin 64) (n : Fin 4096) (hy : t.val * 32768 + (y 0 : Nat) = l * 4096 + n) :
    (dat2 V c).after 14 t y
      = rep (x l n) (col (V c main_v13)) (col (V c main_v14)) (matT (V c main_v16)) (col (V c main_v17))
          (col (V c main_v18)) (col (V c main_v19)) (y 1) := by
  obtain ⟨e0, e1, e14, e15⟩ := idx t
  obtain ⟨⟨e2, e3, e4, e5, e6, e7⟩, -⟩ := idx_w t
  obtain ⟨l8, hl, hy'⟩ := tile_lt t.val (y 0) l n 4096 n.isLt (y 0).isLt hy
  have h0 : iblk2 V c 0 t (ix2 (⟨l.val - 8 * t.val, l8⟩ : Fin 8) n) = x l n := by
    rw [← hx]
    blk_ext [iblk2, e0]
  have h2 : iblk2 V c 2 t = V c main_v13 := by funext i; blk_ext [iblk2, e2]
  have h3 : iblk2 V c 3 t = V c main_v14 := by funext i; blk_ext [iblk2, e3]
  have h4 : iblk2 V c 4 t = V c main_v16 := by funext i; blk_ext [iblk2, e4]
  have h5 : iblk2 V c 5 t = V c main_v17 := by funext i; blk_ext [iblk2, e5]
  have h6 : iblk2 V c 6 t = V c main_v18 := by funext i; blk_ext [iblk2, e6]
  have h7 : iblk2 V c 7 t = V c main_v19 := by funext i; blk_ext [iblk2, e7]
  rw [after2_14]
  refine (block14 _ _ _ _ _ _ _ _ _ _ _ _ _ _ y ⟨l.val - 8 * t.val, l8⟩ n hy').trans ?_
  rw [h0, h2, h3, h4, h5, h6, h7]

/-- One entry of one block of pooled representations. -/
theorem point15 (c : Dev nD) (x : Fin 64 → Fin 2048 → EReal) (hx : ∀ (l : Fin 64) (n : Fin 2048), V c main_v12 (ix2 l n) = x l n)
    (t : Fin cfg2.N) (y : S16384x64.Idx) (l : Fin 64) (n : Fin 2048) (hy : t.val * 16384 + (y 0 : Nat) = l * 2048 + n) :
    (dat2 V c).after 15 t y
      = rep (x l n) (col (V c main_v20)) (col (V c main_v21)) (matT (V c main_v23)) (col (V c main_v24))
          (col (V c main_v25)) (col (V c main_v26)) (y 1) := by
  obtain ⟨e0, e1, e14, e15⟩ := idx t
  obtain ⟨-, ⟨e2, e3, e4, e5, e6, e7⟩⟩ := idx_w t
  obtain ⟨l8, hl, hy'⟩ := tile_lt t.val (y 0) l n 2048 n.isLt (y 0).isLt hy
  have h0 : iblk2 V c 1 t (ix2 (⟨l.val - 8 * t.val, l8⟩ : Fin 8) n) = x l n := by
    rw [← hx]
    blk_ext [iblk2, e1]
  have h2 : iblk2 V c 8 t = V c main_v20 := by funext i; blk_ext [iblk2, e2]
  have h3 : iblk2 V c 9 t = V c main_v21 := by funext i; blk_ext [iblk2, e3]
  have h4 : iblk2 V c 10 t = V c main_v23 := by funext i; blk_ext [iblk2, e4]
  have h5 : iblk2 V c 11 t = V c main_v24 := by funext i; blk_ext [iblk2, e5]
  have h6 : iblk2 V c 12 t = V c main_v25 := by funext i; blk_ext [iblk2, e6]
  have h7 : iblk2 V c 13 t = V c main_v26 := by funext i; blk_ext [iblk2, e7]
  rw [after2_15]
  refine (block15 _ _ _ _ _ _ _ _ _ _ _ _ _ _ y ⟨l.val - 8 * t.val, l8⟩ n hy').trans ?_
  rw [h0, h2, h3, h4, h5, h6, h7]

/-- The tile a row of the array of node representations lies in, and its row there. -/
def tileOf (N : Nat) (q : Fin (64 * N)) : Fin 64 := ⟨q.val / N, Nat.div_lt_of_lt_mul (q.isLt.trans_eq (Nat.mul_comm _ _))⟩
def rowOf (N : Nat) (q : Fin (64 * N)) : Fin N :=
  ⟨q.val % N, Nat.mod_lt _ (Nat.pos_of_mul_pos_left (lt_of_le_of_lt (Nat.zero_le _) q.isLt))⟩

theorem tileOf_rowOf (N : Nat) (q : Fin (64 * N)) : q.val = (tileOf N q).val * N + (rowOf N q).val :=
  (Nat.div_add_mod' q.val N).symm

/-- The array of node representations: row `4096·l + n` is the representation of the scalar `(l, n)`. -/
theorem final14 (c : Dev nD) (x : Fin 64 → Fin 4096 → EReal) (hx : ∀ (l : Fin 64) (n : Fin 4096), V c main_v11 (ix2 l n) = x l n) :
    (dat2 V c).arrAt 14 cfg2.N = fun y : S262144x64.Idx =>
      ((rep (x (tileOf 4096 (y 0)) (rowOf 4096 (y 0)))
          (col (V c main_v13)) (col (V c main_v14)) (matT (V c main_v16)) (col (V c main_v17))
          (col (V c main_v18)) (col (V c main_v19)) (y 1) : EReal) : Elt Ideal .bf16) := by
  refine (dat2 V c).arrAt_eq_of_covers 14 _ (by decide +kernel) fun t _ y => ?_
  have hq : ((((View.whole main_v27_0).slice (win2_14.rect t)).emb y 0 : Fin 262144) : Nat) = t.val * 32768 + (y 0 : Nat) := by
    blk_simp [(idx t).2.2.1]
  have hl : (((View.whole main_v27_0).slice (win2_14.rect t)).emb y 1 : Fin 64) = (y 1 : Fin 64) := by
    apply Fin.ext
    blk_simp [(idx t).2.2.1]
  blk_simp
  rw [hl]
  exact point14 V c x hx t y _ _ (hq.symm.trans (tileOf_rowOf 4096 _))

/-- The array of pooled representations: row `2048·l + n` is the representation of the pooled scalar `(l, n)`. -/
theorem final15 (c : Dev nD) (x : Fin 64 → Fin 2048 → EReal) (hx : ∀ (l : Fin 64) (n : Fin 2048), V c main_v12 (ix2 l n) = x l n) :
    (dat2 V c).arrAt 15 cfg2.N = fun y : S131072x64.Idx =>
      ((rep (x (tileOf 2048 (y 0)) (rowOf 2048 (y 0)))
          (col (V c main_v20)) (col (V c main_v21)) (matT (V c main_v23)) (col (V c main_v24))
          (col (V c main_v25)) (col (V c main_v26)) (y 1) : EReal) : Elt Ideal .bf16) := by
  refine (dat2 V c).arrAt_eq_of_covers 15 _ (by decide +kernel) fun t _ y => ?_
  have hq : ((((View.whole main_v27_1).slice (win2_15.rect t)).emb y 0 : Fin 131072) : Nat) = t.val * 16384 + (y 0 : Nat) := by
    blk_simp [(idx t).2.2.2]
  have hl : (((View.whole main_v27_1).slice (win2_15.rect t)).emb y 1 : Fin 64) = (y 1 : Fin 64) := by
    apply Fin.ext
    blk_simp [(idx t).2.2.2]
  blk_simp
  rw [hl]
  exact point15 V c x hx t y _ _ (hq.symm.trans (tileOf_rowOf 2048 _))

end Cert.KernelIdeal.MlpValue

end
-- ==== Proof.SimValue.lean ====
module

public import proofs.«01_k».proof.Proof.Gen.KernelIdeal.Frame
public import proofs.«01_k».proof.Proof.Spec
public import Idealize.ShloMosaic.Lib.Pipeline.ValueKit
public import Idealize.ShloMosaic.Lib.Pointwise

@[expose] public section

set_option maxRecDepth 16384

/-! # The similarity kernel: the softmax of every row of dot products -/

noncomputable section

namespace Cert.KernelIdeal.SimValue

open Idealize.ShloMosaic Idealize.ShloMosaic.TcCoe Idealize.SL.Sem
open Idealize.ShloMosaic.Pipeline (Dat)
open Cert.KernelIdeal Cert.KernelIdeal.Gen Cert.Pool

/-- The word of minus infinity. -/
theorem ofBits_bot : Ideal.ofBits FTy.f32 0xFF800000#32 = (⊥ : EReal) := by
  simp [Ideal.ofBits, Ideal.ieee]

/-- What the similarity kernel stores: the softmax along the second operand's rows of the dot products. -/
theorem pay_apply (x0 : Vec Ideal S512x4096 .bf16) (x1 : Vec Ideal S2048x4096 .bf16) (r : Fin 512) (q : Fin 2048) :
    k3_pay1 x0 x1 (ix2 r q) = softmax (fun q : Fin 2048 => ∑ k : Fin 4096, x0 (ix2 r k) * x1 (ix2 q k)) q := by
  pointwise [k3_pay1]
  simp only [ofBits_bot, softmax]

variable (V : (c : Dev nD) → (b : Ref sig .tc) → Buf (Elt Ideal) ((c : Thread nD τ).loc b))

theorem idx : ∀ t : Fin cfg3.N, win3_0.index t = ![t.val, 0] ∧ win3_1.index t = ![0, 0] ∧ win3_2.index t = ![t.val, 0] :=
  (by decide +kernel : ∀ t : Fin grid3.N, _)

theorem row_lt (t : Fin cfg3.N) (r : Fin 512) : t.val * 512 + (r : Nat) < 4096 := by
  have h : t.val < 8 := lt_of_lt_of_eq t.isLt N_3
  omega

/-- One entry of one block: at row `r` of point `t`, the softmax of the dot products of row `512·t + r`. -/
theorem point (c : Dev nD) (a : Fin 4096 → Fin 4096 → EReal) (b : Fin 2048 → Fin 4096 → EReal)
    (ha : ∀ p k : Fin 4096, V c main_v28 (ix2 p k) = a p k) (hb : ∀ (q : Fin 2048) (k : Fin 4096), V c main_v29 (ix2 q k) = b q k)
    (t : Fin cfg3.N) (r : Fin 512) (q : Fin 2048) :
    k3_pay1 (iblk3 V c 0 t) (iblk3 V c 1 t) (ix2 r q) = softmax (fun q => ∑ k, a ⟨_, row_lt t r⟩ k * b q k) q := by
  obtain ⟨e0, e1, e2⟩ := idx t
  have h0 : ∀ k : Fin 4096, iblk3 V c 0 t (ix2 r k) = a ⟨_, row_lt t r⟩ k := fun k => by
    rw [← ha]
    blk_ext [iblk3, e0]
  have h1 : ∀ (q : Fin 2048) (k : Fin 4096), iblk3 V c 1 t (ix2 q k) = b q k := fun q k => by
    rw [← hb]
    blk_ext [iblk3, e1]
  rw [pay_apply]
  simp only [h0, h1]

/-- The similarity array: row `p` is the softmax of the dot products of row `p` of the one operand with every row of the
    other. -/
theorem final (c : Dev nD) (a : Fin 4096 → Fin 4096 → EReal) (b : Fin 2048 → Fin 4096 → EReal)
    (ha : ∀ p k : Fin 4096, V c main_v28 (ix2 p k) = a p k) (hb : ∀ (q : Fin 2048) (k : Fin 4096), V c main_v29 (ix2 q k) = b q k) :
    (dat3 V c).arrAt 2 cfg3.N = fun y : S4096x2048.Idx =>
      ((softmax (fun q => ∑ k, a (y 0) k * b q k) (y 1) : EReal) : Elt Ideal .f32) := by
  refine (dat3 V c).arrAt_eq_of_covers 2 _ (by decide +kernel) fun t _ y => ?_
  blk_simp
  rw [after3_2]
  frame_out
  have hy : y = (ix2 (y 0 : Fin 512) (y 1 : Fin 2048) : S512x2048.Idx) := by
    blk_ext
  have hq : (((View.whole main_v30).slice (win3_2.rect t)).emb y 0 : Fin 4096) = ⟨_, row_lt t (y 0)⟩ := by
    apply Fin.ext
    blk_simp [(idx t).2.2]
  have hl : (((View.whole main_v30).slice (win3_2.rect t)).emb y 1 : Fin 2048) = (y 1 : Fin 2048) := by
    apply Fin.ext
    blk_simp [(idx t).2.2]
  rw [hq, hl]
  exact (congrArg (k3_pay1 (iblk3 V c 0 t) (iblk3 V c 1 t)) hy).trans (point V c a b ha hb t (y 0) (y 1))

end Cert.KernelIdeal.SimValue

end
-- ==== Proof.KernelValue.lean ====
module

public import proofs.«01_k».proof.Proof.HostValue
public import proofs.«01_k».proof.Proof.MlpValue
public import proofs.«01_k».proof.Proof.SimValue

@[expose] public section

set_option maxRecDepth 16384

/-! # The kernel's result as one formula of its arguments -/

noncomputable section

namespace Cert.KernelIdeal.KernelValue

open Idealize.ShloMosaic Idealize.ShloMosaic.TcCoe Idealize.SL.Sem
open Cert.KernelIdeal Cert.KernelIdeal.Gen Cert.KernelIdeal.HostValue Cert.KernelIdeal.MlpValue Cert.Pool

variable (m : (ℓ : Loc nD τ sig) → Buf (Elt Ideal) ℓ) (ρ : Dev nD → PrngReg) (c : Dev nD)

/-- A rank-one argument, the single row of a one-row argument, and a square argument, as functions. -/
abbrev vec (x : FVec Ideal S64 .f32) : Fin 64 → EReal := fun k => x (ix1 k)
abbrev row0 (x : FVec Ideal S1x64 .f32) : Fin 64 → EReal := fun k => x (ix2 (0 : Fin 1) k)
abbrev mat (x : FVec Ideal S64x64 .f32) : Fin 64 → Fin 64 → EReal := fun k h => x (ix2 k h)

/-- The representation of a node's feature. -/
abbrev nodeRep (v : EReal) : Fin 64 → EReal :=
  rep v (row0 (m ((c : Thread nD τ).loc main_arg3))) (vec (m ((c : Thread nD τ).loc main_arg4))) (mat (m ((c : Thread nD τ).loc main_arg5)))
    (vec (m ((c : Thread nD τ).loc main_arg6))) (vec (m ((c : Thread nD τ).loc main_arg7))) (vec (m ((c : Thread nD τ).loc main_arg8)))

/-- The representation of a supernode's feature. -/
abbrev supRep (v : EReal) : Fin 64 → EReal :=
  rep v (row0 (m ((c : Thread nD τ).loc main_arg9))) (vec (m ((c : Thread nD τ).loc main_arg10))) (mat (m ((c : Thread nD τ).loc main_arg11)))
    (vec (m ((c : Thread nD τ).loc main_arg12))) (vec (m ((c : Thread nD τ).loc main_arg13))) (vec (m ((c : Thread nD τ).loc main_arg14)))

/-- Entry `k` of row `p` of the node matrix, and of the supernode matrix. -/
abbrev nodeRow (p k : Fin 4096) : EReal := nodeRep m c (feat m c (nodeOf p k) (featOf p)) (entryOf k)
abbrev supRow (q : Fin 2048) (k : Fin 4096) : EReal :=
  supRep m c (pooled (feat m c) (scores m c) (supOf q k) (supFeatOf q)) (entryOf k)

/-- The third region's node output. -/
theorem v27_0_eq : W8 m ρ c (Proc.devRef .tc main_v27_0)
    = fun y : S262144x64.Idx => nodeRep m c (feat m c (rowOf 4096 (y 0)) (tileOf 4096 (y 0))) (y 1) := by
  refine (W8_arr m ρ c 14).trans ((final14 (V7 m ρ) c (fun l n => feat m c n l) (v11_apply m ρ c)).trans ?_)
  rw [v13_eq, v14_eq, v16_eq, v17_eq, v18_eq, v19_eq]

/-- The third region's supernode output. -/
theorem v27_1_eq : W8 m ρ c (Proc.devRef .tc main_v27_1)
    = fun y : S131072x64.Idx => supRep m c (pooled (feat m c) (scores m c) (rowOf 2048 (y 0)) (tileOf 2048 (y 0))) (y 1) := by
  refine (W8_arr m ρ c 15).trans ((final15 (V7 m ρ) c (fun l n => pooled (feat m c) (scores m c) n l) (v12_apply m ρ c)).trans ?_)
  rw [v20_eq, v21_eq, v23_eq, v24_eq, v25_eq, v26_eq]

/-- Row `p·64 + k/64` of the node representations, tiled by 4096: the feature and the node it belongs to. -/
theorem tile_node (p k : Fin 4096) (q : Fin (64 * 4096)) (hq : q.val = p.val * 64 + k.val / 64) :
    tileOf 4096 q = featOf p ∧ rowOf 4096 q = nodeOf p k := by
  have hk := k.isLt
  refine ⟨Fin.ext ?_, Fin.ext ?_⟩
  · show q.val / 4096 = p.val / 64
    omega
  · show q.val % 4096 = p.val % 64 * 64 + k.val / 64
    omega

/-- Row `q·64 + k/64` of the supernode representations, tiled by 2048. -/
theorem tile_sup (q : Fin 2048) (k : Fin 4096) (r : Fin (64 * 2048)) (hr : r.val = q.val * 64 + k.val / 64) :
    tileOf 2048 r = supFeatOf q ∧ rowOf 2048 r = supOf q k := by
  have hk := k.isLt
  refine ⟨Fin.ext ?_, Fin.ext ?_⟩
  · show r.val / 2048 = q.val / 32
    omega
  · show r.val % 2048 = q.val % 32 * 64 + k.val / 64
    omega

/-- The node matrix. -/
theorem v28_apply (p k : Fin 4096) : V9 m ρ c main_v28 (ix2 p k) = nodeRow m c p k := by
  show (StableHlo.after hostOps3 (W8 m ρ c)) (Proc.devRef .tc main_v28) _ = _
  after_results
  pointwise []
  refine (congrFun (v27_0_eq m ρ c) _).trans ?_
  exact congrArg₂ (fun (l : Fin 64) (n : Fin 4096) => nodeRep m c (feat m c n l) (entryOf k))
    (tile_node p k _ rfl).1 (tile_node p k _ rfl).2

/-- The supernode matrix. -/
theorem v29_apply (q : Fin 2048) (k : Fin 4096) : V9 m ρ c main_v29 (ix2 q k) = supRow m c q k := by
  show (StableHlo.after hostOps3 (W8 m ρ c)) (Proc.devRef .tc main_v29) _ = _
  after_results
  pointwise []
  refine (congrFun (v27_1_eq m ρ c) _).trans ?_
  exact congrArg₂ (fun (l : Fin 64) (n : Fin 2048) => supRep m c (pooled (feat m c) (scores m c) n l) (entryOf k))
    (tile_sup q k _ rfl).1 (tile_sup q k _ rfl).2

/-- The kernel's result: the softmax of every row of dot products. -/
theorem result_eq : W10 m ρ c (Proc.devRef .tc main_v30)
    = fun y : S4096x2048.Idx => softmax (fun q => ∑ k, nodeRow m c (y 0) k * supRow m c q k) (y 1) :=
  (W10_arr m ρ c 2).trans (SimValue.final (V9 m ρ) c (nodeRow m c) (supRow m c) (v28_apply m ρ c) (v29_apply m ρ c))

end Cert.KernelIdeal.KernelValue
end
-- ==== Proof.RefPool.lean ====
module

public import proofs.«01_k».proof.Proof.Gen.ReferenceIdeal.Run
public import proofs.«01_k».proof.Proof.Order
public import proofs.«01_k».proof.Proof.Spec
public import Idealize.ShloMosaic.Lib.Routing.Ops
public import Idealize.ShloMosaic.Lib.Pipeline.ValueKit
public import Idealize.ShloMosaic.Lib.Pointwise

@[expose] public section

set_option maxRecDepth 16384

/-! # The reference's pooling: the stable top-k and the rows it takes -/

noncomputable section

namespace Cert.ReferenceIdeal.Pool

open Idealize.ShloMosaic Idealize.ShloMosaic.TcCoe Idealize.SL.Sem
open Cert.ReferenceIdeal Cert.ReferenceIdeal.Gen Cert.Pool

/-- The total compare of the stable sort is the order of the extended reals. -/
theorem gt_eq (a b : EReal) : ((FloatOps.cmpfTotal (F := Ideal) (φ := .f32) .gt a b : BitVec 1) == 1#1) = decide (b < a) := by
  show ((BitVec.ofBool (decide (b < a)) : BitVec 1) == 1#1) = _
  by_cases h : b < a <;> simp [h]

/-- An index of a line is its position. -/
theorem along_ix1 (i : (⟨1, ![4096]⟩ : Shape).Idx) (k : Fin 4096) : i.along (0 : Fin 1) k = ix1 k :=
  (Shape.Idx.along_rank1 i k).trans (Shape.Idx.eq_ofFin (ix1 k)).symm

/-- The stable sort of a line together with a second line: both read at the picked positions. -/
theorem sort_apply (x : FVec Ideal S4096 .f32) (y : IVec S4096 32) (i : S4096.Idx) :
    (Host.sort2 S4096 0 (fun l r => FloatOps.cmpfTotal .gt l.1 r.1) x y).1 i = x (ix1 (pick (fun j : Fin 4096 => x (ix1 j)) (i 0)))
    ∧ (Host.sort2 S4096 0 (fun l r => FloatOps.cmpfTotal .gt l.1 r.1) x y).2 i = y (ix1 (pick (fun j : Fin 4096 => x (ix1 j)) (i 0))) := by
  have h : sortedFrom (fun k k' => FloatOps.cmpfTotal (F := Ideal) (φ := .f32) .gt
        (x ((i : (⟨1, ![4096]⟩ : Shape).Idx).along (0 : Fin 1) k)) (x ((i : (⟨1, ![4096]⟩ : Shape).Idx).along (0 : Fin 1) k')) == 1#1) (i 0)
      = pick (fun j : Fin 4096 => x (ix1 j)) (i 0) :=
    congrArg (fun f => sortedFrom f (i 0 : Fin 4096)) (funext fun k => funext fun k' => (gt_eq _ _).trans
      (congrArg₂ (fun a b : S4096.Idx => decide (x a < x b)) (along_ix1 i k') (along_ix1 i k)))
  unfold Host.sort2
  rw [dif_pos (show 0 < S4096.rank by decide)]
  exact ⟨congrArg x ((along_ix1 i _).trans (congrArg (fun k : Fin 4096 => (ix1 k : S4096.Idx)) h)),
    congrArg y ((along_ix1 i _).trans (congrArg (fun k : Fin 4096 => (ix1 k : S4096.Idx)) h))⟩

/-- Position `p` of the first 2048 is position `p` of all. -/
theorem picked_eq (s : Fin 4096 → EReal) (p : Fin 2048) (q : Fin 4096) (h : q.val = 0 + p.val) : pick s q = picked s p :=
  congrArg (pick s) (Fin.ext (h.trans (Nat.zero_add _)))

/-- The values of the top-k: position `p` holds the number of the element picked there. -/
theorem topK_fst (x : FVec Ideal S4096 .f32) (h) (p : Fin 2048) :
    (Host.topK S2048 0 (FloatOps.cmpfTotal .gt) x h).1 (ix1 p) = x (ix1 (picked (fun j : Fin 4096 => x (ix1 j)) p)) := by
  simp only [Host.topK, extractStridedSlice]
  exact (sort_apply x _ _).1.trans (congrArg (fun k : Fin 4096 => x (ix1 k)) (picked_eq _ p _ rfl))

/-- The indices of the top-k: position `p` holds the element picked there, as a word. -/
theorem topK_snd (x : FVec Ideal S4096 .f32) (h) (p : Fin 2048) :
    (Host.topK S2048 0 (FloatOps.cmpfTotal .gt) x h).2 (ix1 p)
      = BitVec.ofNat 32 (picked (fun j : Fin 4096 => x (ix1 j)) p).val := by
  simp only [Host.topK, extractStridedSlice]
  exact (sort_apply x _ _).2.trans (congrArg (fun k : Fin 4096 => BitVec.ofNat 32 k.val) (picked_eq _ p _ rfl))

/-- A word of a number below 4096 is not negative. -/
theorem slt_zero (n : Nat) (hn : n < 4096) : IntOp.cmpi .slt (BitVec.ofNat 32 n) 0#32 = 0#1 := by
  have h : (BitVec.ofNat 32 n).toInt = (n : Int) := by
    rw [BitVec.toInt_eq_toNat_of_lt] <;> rw [BitVec.toNat_ofNat] <;> omega
  have h0 : ¬ (n : Int) < (0#32).toInt := by
    rw [BitVec.toInt_zero]
    omega
  simp only [IntOp.cmpi, BitVec.slt_eq_decide, h, h0, decide_false]
  rfl

open Cert.ReferenceIdeal.Value

variable (V0 : Valuation τ sig (Elt Ideal))

/-- The argument arrays as functions. -/
abbrev feat (j : Fin 4096) (l : Fin 64) : EReal := V0 (Proc.devRef .tc main_arg0) (ix2 j l)
abbrev weight (k : Fin 64) : EReal := V0 (Proc.devRef .tc main_arg2) (ix1 k)
abbrev scores : Fin 4096 → EReal := score (feat V0) (weight V0)

/-- The reference's scores. -/
theorem v3_apply (j : Fin 4096) : res_main_v3 V0 (ix1 j) = scores V0 j := by
  pointwise [res_main_v3]
  rfl

theorem indices_apply (p : Fin 2048) : res_main_indices V0 (ix1 p) = BitVec.ofNat 32 (picked (scores V0) p).val := by
  unfold res_main_indices
  rw [topK_snd]
  simp only [v3_apply]

/-- The rows the reference takes: the picked nodes'. -/
theorem taken_apply (p : Fin 2048) (l : Fin 64) :
    Host.gather gather_S4096x64_S2048x1_S2048x64_1_0_n_n_0_1_164 (V0 (Proc.devRef .tc main_arg0)) (broadcastInDim S2048x1 ![0] bcast_S2048_S2048x1_0 (select (cmpi .slt (res_main_indices V0) (broadcastInDim S2048 ![] bcast_S_S2048 (constantI S_ 32 0#32))) (addi (res_main_indices V0) (broadcastInDim S2048 ![] bcast_S_S2048 (constantI S_ 32 4096#32))) (res_main_indices V0))) (ix2 p l)
      = feat V0 (picked (scores V0) p) l := by
  refine Routing.gather_row _ rfl rfl rfl rfl rfl _ _ p l (picked (scores V0) p) ?_ (by decide)
  pointwise []
  rw [indices_apply, slt_zero _ (picked (scores V0) p).isLt]
  rfl

end Cert.ReferenceIdeal.Pool

end
-- ==== Proof.RefSoftmax.lean ====
module

public import proofs.«01_k».proof.Proof.RefPool

@[expose] public section

set_option maxRecDepth 16384

/-! # The reference's softmax, entry by entry -/

noncomputable section

namespace Cert.ReferenceIdeal.RefSoftmax

open Idealize.ShloMosaic Idealize.ShloMosaic.TcCoe Idealize.SL.Sem
open Cert.ReferenceIdeal Cert.ReferenceIdeal.Gen Cert.ReferenceIdeal.Value Cert.ReferenceIdeal.Pool Cert.Pool

theorem ofBits_bot : Ideal.ofBits FTy.f32 0xFF800000#32 = (⊥ : EReal) := by
  simp [Ideal.ofBits, Ideal.ieee]

/-- The largest entry of row `p`, from minus infinity. -/
theorem max_apply (z : FVec Ideal S4096x2048 .f32) (p : Fin 4096) :
    Host.reduce FloatOps.maximumf z (constant S_ .f32 0xFF800000#32) reducesTo_S4096x2048_S4096_d1 h_S_ (ix1 p)
      = Finset.univ.fold max ⊥ (fun q : Fin 2048 => z (ix2 p q)) := by
  simp only [pointwise]
  rw [ofBits_bot]

/-- The exponentials of a matrix's entries, a number subtracted in every row first: minus infinity's maximum with it is itself. -/
theorem exp_apply (z : FVec Ideal S4096x2048 .f32) (b : FVec Ideal S4096 .f32) (p : Fin 4096) (q : Fin 2048) :
    Host.exp (subf z (broadcastInDim S4096x2048 ![0, 1] bcast_S4096x1_S4096x2048_0_1 (broadcastInDim S4096x1 ![0] bcast_S4096_S4096x1_0
      (maximumf (broadcastInDim S4096 ![] bcast_S_S4096 (constant S_ .f32 0xFF800000#32)) b)))) (ix2 p q)
      = Ideal.exp (z (ix2 p q) - b (ix1 p)) := by
  pointwise []
  rw [ofBits_bot, max_eq_right bot_le]

/-- Every row divided by its sum: the softmax of a row, where the entries are the exponentials of a row's. -/
theorem softmax_apply (e : FVec Ideal S4096x2048 .f32) (p : Fin 4096) (q : Fin 2048) (z : Fin 2048 → EReal)
    (h : ∀ q : Fin 2048, e (ix2 p q) = Ideal.exp (z q - Finset.univ.fold max ⊥ z)) :
    Host.divf e (broadcastInDim S4096x2048 ![0, 1] bcast_S4096x1_S4096x2048_0_1
      (broadcastInDim S4096x1 ![0] bcast_S4096_S4096x1_0 (Host.reduceAdd e (constant S_ .f32 0x00000000#32) reducesTo_S4096x2048_S4096_d1 h_S_))) (ix2 p q)
      = softmax z q := by
  pointwise [h]
  rfl

end Cert.ReferenceIdeal.RefSoftmax

end
-- ==== Proof.RefValue.lean ====
module

public import proofs.«01_k».proof.Proof.RefSoftmax

@[expose] public section

set_option maxRecDepth 16384

/-! # The reference's result, entry by entry -/

noncomputable section

namespace Cert.ReferenceIdeal.RefValue

open Idealize.ShloMosaic Idealize.ShloMosaic.TcCoe Idealize.SL.Sem
open Cert.ReferenceIdeal Cert.ReferenceIdeal.Gen Cert.ReferenceIdeal.Value Cert.ReferenceIdeal.Pool Cert.ReferenceIdeal.RefSoftmax Cert.Pool

variable (V0 : Valuation τ sig (Elt Ideal))

/-- An argument vector of 64, the one row of the first layer's matrix, and the second layer's matrix, as functions. -/
abbrev vec (x : FVec Ideal S64 .f32) : Fin 64 → EReal := fun k => x (ix1 k)
abbrev row0 (x : FVec Ideal S1x64 .f32) : Fin 64 → EReal := fun k => x (ix2 (0 : Fin 1) k)
abbrev mat (x : FVec Ideal S64x64 .f32) : Fin 64 → Fin 64 → EReal := fun k h => x (ix2 k h)

/-- The node perceptron before its normalisation. -/
theorem v28_apply (l : Fin 64) (n : Fin 4096) (h : Fin 64) : res_main_v28 V0 (ix3 l n h)
    = relu2 (feat V0 n l) (row0 (V0 (Proc.devRef .tc main_arg3))) (vec (V0 (Proc.devRef .tc main_arg4))) (mat (V0 (Proc.devRef .tc main_arg5)))
        (vec (V0 (Proc.devRef .tc main_arg6))) h := by
  pointwise [res_main_v28]
  simp only [Fin.sum_univ_one]
  rfl

/-- The pooled perceptron before its normalisation. -/
theorem v62_apply (l : Fin 64) (p : Fin 2048) (h : Fin 64) : res_main_v62 V0 (ix3 l p h)
    = relu2 (pooled (feat V0) (scores V0) p l) (row0 (V0 (Proc.devRef .tc main_arg9))) (vec (V0 (Proc.devRef .tc main_arg10)))
        (mat (V0 (Proc.devRef .tc main_arg11))) (vec (V0 (Proc.devRef .tc main_arg12))) h := by
  pointwise [res_main_v62, topK_fst, v3_apply]
  rw [taken_apply]
  simp only [Fin.sum_univ_one]
  rfl

/-- Row `p` of the node representations, laid out in rows of 4096. -/
abbrev nodeRow (p k : Fin 4096) : EReal :=
  rep (feat V0 (nodeOf p k) (featOf p)) (row0 (V0 (Proc.devRef .tc main_arg3))) (vec (V0 (Proc.devRef .tc main_arg4)))
    (mat (V0 (Proc.devRef .tc main_arg5))) (vec (V0 (Proc.devRef .tc main_arg6))) (vec (V0 (Proc.devRef .tc main_arg7)))
    (vec (V0 (Proc.devRef .tc main_arg8))) (entryOf k)

/-- Row `q` of the pooled representations, laid out in rows of 4096. -/
abbrev supRow (q : Fin 2048) (k : Fin 4096) : EReal :=
  rep (pooled (feat V0) (scores V0) (supOf q k) (supFeatOf q)) (row0 (V0 (Proc.devRef .tc main_arg9)))
    (vec (V0 (Proc.devRef .tc main_arg10))) (mat (V0 (Proc.devRef .tc main_arg11))) (vec (V0 (Proc.devRef .tc main_arg12)))
    (vec (V0 (Proc.devRef .tc main_arg13))) (vec (V0 (Proc.devRef .tc main_arg14))) (entryOf k)

/-- The dot products. -/
theorem v90_apply (p : Fin 4096) (q : Fin 2048) : res_main_v90 V0 (ix2 p q) = ∑ k, nodeRow V0 p k * supRow V0 q k := by
  pointwise [res_main_v90, res_main_v32, res_main_v34, res_main_v66, res_main_v68, v28_apply, v62_apply]
  rfl

/-- The reference's result: the softmax of every row of dot products. -/
theorem result_apply (p : Fin 4096) (q : Fin 2048) :
    Host.divf (res_main_v97 V0) (broadcastInDim S4096x2048 ![0, 1] bcast_S4096x1_S4096x2048_0_1
      (broadcastInDim S4096x1 ![0] bcast_S4096_S4096x1_0 (Host.reduceAdd (res_main_v97 V0) (constant S_ .f32 0x00000000#32) reducesTo_S4096x2048_S4096_d1 h_S_))) (ix2 p q)
      = softmax (fun q => ∑ k, nodeRow V0 p k * supRow V0 q k) q := by
  refine softmax_apply (res_main_v97 V0) p q _ fun q => ?_
  refine (exp_apply (res_main_v90 V0) _ p q).trans ?_
  rw [max_apply]
  simp only [v90_apply]

end Cert.ReferenceIdeal.RefValue

end
-- ==== Proof.Claims.lean ====
module

public import proofs.«01_k».proof.Defs
public import proofs.«01_k».proof.Proof.Gen.Kernel.Frame
public import proofs.«01_k».proof.Proof.KernelRun
public import proofs.«01_k».proof.Proof.KernelValue
public import proofs.«01_k».proof.Proof.RefValue

@[expose] public section

set_option maxRecDepth 16384

/-! # The claims, each from its program's run -/

noncomputable section

namespace Cert.Proof.Claims

open Idealize.ShloMosaic Idealize.ShloMosaic.TcCoe Idealize.ShloMosaic.StableHlo Idealize.SL.Sem Cert.Pool

/-- The kernel runs at words, leaves its arguments as they were and every semaphore at zero. -/
theorem frame_kernel : Cert.quiescent_Kernel := fun m ρ _ => Cert.Kernel.Gen.frame m ρ

/-- So does the kernel read at the extended reals. -/
theorem frame_ideal : Cert.quiescent_KernelIdeal := fun m ρ _ => Cert.KernelIdeal.Gen.frame m ρ

/-- So does the reference, which declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Equal scalars and equal weights have equal representations. -/
theorem rep_congr {v v' : EReal} {A A' B B' D D' E E' G G' : Fin 64 → EReal} {C C' : Fin 64 → Fin 64 → EReal} (hv : v = v')
    (hA : A = A') (hB : B = B') (hC : C = C') (hD : D = D') (hE : E = E') (hG : G = G') (e : Fin 64) :
    rep v A B C D E G e = rep v' A' B' C' D' E' G' e := by
  subst hv hA hB hC hD hE hG
  rfl

/-- The two programs' values at the extended reals: equal as soon as the arguments are. -/
theorem algebraic : Cert.algebraic_KernelIdeal_ReferenceIdeal := by
  intro m g m' g' _ hagree
  refine ⟨fun c => Cert.KernelIdeal.Gen.W10 m g c (Proc.devRef .tc Cert.KernelIdeal.main_v30), ?_, ?_⟩
  · exact (θ_run Cert.KernelIdeal.defs _ _).mono (fun r h c =>
      have at_ (a : Ref Cert.KernelIdeal.sig .tc) (ha : a ∈ Cert.KernelIdeal.Gen.argRefs)
          (hs : ¬ (Proc.devRef .tc a : DevRef Cert.KernelIdeal.τ Cert.KernelIdeal.sig).isScoped) :
          r.2.mem ((c.tc : Thread Cert.KernelIdeal.nD Cert.KernelIdeal.τ).loc a) = m ((c.tc : Thread Cert.KernelIdeal.nD Cert.KernelIdeal.τ).loc a) :=
        (h c _ (Cert.KernelIdeal.Gen.mem_uc a hs)).trans (Cert.KernelIdeal.Gen.W10_args m g c a ha)
      ⟨h c _ (Cert.KernelIdeal.Gen.mem_uc Cert.KernelIdeal.main_v30 (by decide)),
        at_ _ (by decide) (by decide), at_ _ (by decide) (by decide), at_ _ (by decide) (by decide), at_ _ (by decide) (by decide),
        at_ _ (by decide) (by decide), at_ _ (by decide) (by decide), at_ _ (by decide) (by decide), at_ _ (by decide) (by decide),
        at_ _ (by decide) (by decide), at_ _ (by decide) (by decide), at_ _ (by decide) (by decide), at_ _ (by decide) (by decide),
        at_ _ (by decide) (by decide), at_ _ (by decide) (by decide), at_ _ (by decide) (by decide)⟩)
      (Cert.KernelIdeal.Run.ends m g)
  · refine (θ_run Cert.ReferenceIdeal.defs _ _).mono (fun _ h c => ⟨(h c).1.trans ?_, (h c).2⟩)
      (Cert.ReferenceIdeal.Value.run (F := Ideal) m' g')
    obtain ⟨h0, -, h2, h3, h4, h5, h6, h7, h8, h9, h10, h11, h12, h13, h14⟩ := hagree c
    have hf : Cert.ReferenceIdeal.Pool.feat (launchContents m' c) = Cert.KernelIdeal.HostValue.feat m c :=
      funext fun j => funext fun l => congrFun h0 (ix2 j l)
    have hw : Cert.ReferenceIdeal.Pool.weight (launchContents m' c) = Cert.KernelIdeal.HostValue.weight m c :=
      funext fun k => congrFun h2 (ix1 k)
    have hs : Cert.ReferenceIdeal.Pool.scores (launchContents m' c) = Cert.KernelIdeal.HostValue.scores m c :=
      congrArg₂ score hf hw
    have hn (p k : Fin 4096) : Cert.ReferenceIdeal.RefValue.nodeRow (launchContents m' c) p k = Cert.KernelIdeal.KernelValue.nodeRow m c p k :=
      rep_congr (congrFun (congrFun hf _) _) (funext fun k => congrFun h3 (ix2 (0 : Fin 1) k)) (funext fun k => congrFun h4 (ix1 k))
        (funext fun k => funext fun e => congrFun h5 (ix2 k e)) (funext fun k => congrFun h6 (ix1 k))
        (funext fun k => congrFun h7 (ix1 k)) (funext fun k => congrFun h8 (ix1 k)) _
    have hq (q : Fin 2048) (k : Fin 4096) : Cert.ReferenceIdeal.RefValue.supRow (launchContents m' c) q k = Cert.KernelIdeal.KernelValue.supRow m c q k :=
      rep_congr (congrArg₂ (fun a s => pooled a s (supOf q k) (supFeatOf q)) hf hs) (funext fun k => congrFun h9 (ix2 (0 : Fin 1) k))
        (funext fun k => congrFun h10 (ix1 k)) (funext fun k => funext fun e => congrFun h11 (ix2 k e))
        (funext fun k => congrFun h12 (ix1 k)) (funext fun k => congrFun h13 (ix1 k)) (funext fun k => congrFun h14 (ix1 k)) _
    refine Eq.trans ?_ (Cert.KernelIdeal.KernelValue.result_eq m g c).symm
    funext i
    obtain ⟨p, q, rfl⟩ : ∃ (p : Fin 4096) (q : Fin 2048), i = ix2 p q := ⟨i 0, i 1, eq_ix2 i⟩
    refine (Cert.ReferenceIdeal.RefValue.result_apply _ p q).trans ?_
    exact congrArg (fun z => softmax z q) (funext fun q => Finset.sum_congr rfl fun k _ => congrArg₂ (· * ·) (hn p k) (hq q k))

end Cert.Proof.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Claims.frame_kernel, Claims.frame_ideal, Claims.frame_reference, trivial, Claims.algebraic⟩

end Cert.Proof

end
